-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S3x1024x5120 : Shape := ⟨3, ![3, 1024, 5120]⟩
abbrev S5120 : Shape := ⟨1, ![5120]⟩
abbrev S640x5120 : Shape := ⟨2, ![640, 5120]⟩
abbrev S640 : Shape := ⟨1, ![640]⟩
abbrev S128 : Shape := ⟨1, ![128]⟩
abbrev S_ : Shape := ⟨0, ![]⟩
abbrev S3x1024 : Shape := ⟨2, ![3, 1024]⟩
abbrev S3x1024x1 : Shape := ⟨3, ![3, 1024, 1]⟩
abbrev S1x1x5120 : Shape := ⟨3, ![1, 1, 5120]⟩

class Facts : Prop where
  bitsLt_bf16_f32 : FTy.bits .bf16 < FTy.bits .f32
  reducesTo_S3x1024x5120_S3x1024_d2 : S3x1024x5120.ReducesTo [2] S3x1024
  h_S_ : 0 < S_.numel
  bcast_S3x1024_S3x1024x1_0_1 : S3x1024.BroadcastsInDim S3x1024x1 (![0, 1] : Fin 2 → Fin S3x1024x1.rank)
  bcast_S_S3x1024x1 : S_.BroadcastsInDim S3x1024x1 (![] : Fin 0 → Fin S3x1024x1.rank)
  bcast_S3x1024x1_S3x1024x5120_0_1_2 : S3x1024x1.BroadcastsInDim S3x1024x5120 (![0, 1, 2] : Fin 3 → Fin S3x1024x5120.rank)
  bcast_S5120_S1x1x5120_2 : S5120.BroadcastsInDim S1x1x5120 (![2] : Fin 1 → Fin S1x1x5120.rank)
  bcast_S1x1x5120_S3x1024x5120_0_1_2 : S1x1x5120.BroadcastsInDim S3x1024x5120 (![0, 1, 2] : Fin 3 → Fin S3x1024x5120.rank)

variable [Facts]

def fn_part1 {F : FTy → Type} [FloatOps F] (main_v17 : FVec F S3x1024x1 .f32) (main_v18 : FVec F S3x1024x1 .f32) : IVec S3x1024x1 1 :=
  let main_v19 : FVec F S3x1024x1 .f32 := mulf main_v17 main_v18
  let main_cst_4 : FVec F S_ .f32 := constant S_ .f32 0x00000000#32
  let main_v20 : FVec F S3x1024x1 .f32 := broadcastInDim S3x1024x1 ![] bcast_S_S3x1024x1 main_cst_4
  let main_v21 : IVec S3x1024x1 1 := cmpf .oeq main_v17 main_v20
  let main_cst_5 : FVec F S_ .f32 := constant S_ .f32 0x00800000#32
  let main_v22 : FVec F S3x1024x1 .f32 := broadcastInDim S3x1024x1 ![] bcast_S_S3x1024x1 main_cst_5
  let main_v23 : IVec S3x1024x1 1 := cmpf .oge main_v19 main_v22
  let main_cst_6 : FVec F S_ .f32 := constant S_ .f32 0x7E800000#32
  let main_v24 : FVec F S3x1024x1 .f32 := broadcastInDim S3x1024x1 ![] bcast_S_S3x1024x1 main_cst_6
  let main_v25 : IVec S3x1024x1 1 := cmpf .olt main_v19 main_v24
  let main_v26 : IVec S3x1024x1 1 := andi main_v23 main_v25
  let main_v27 : IVec S3x1024x1 1 := ori main_v21 main_v26
  main_v27

def fn {F : FTy → Type} [FloatOps F] (main_arg0 : FVec F S3x1024x5120 .bf16) (main_arg1 : FVec F S5120 .bf16) (main_arg2 : FVec F S640x5120 .fp8e4m3) (main_arg3 : FVec F S640 .f32) (main_arg4 : FVec F S640x5120 .fp8e4m3) (main_arg5 : FVec F S640 .f32) (main_arg6 : FVec F S640x5120 .fp8e4m3) (main_arg7 : FVec F S640 .f32) (main_arg8 : FVec F S128 .bf16) (main_arg9 : FVec F S128 .bf16) : IVec S3x1024x1 1 :=
  let main_v0 : FVec F S3x1024x5120 .f32 := (extf .f32 · bitsLt_bf16_f32) main_arg0
  let main_v1 : FVec F S3x1024x5120 .f32 := mulf main_v0 main_v0
  let main_cst : FVec F S_ .f32 := constant S_ .f32 0x00000000#32
  let main_v2 : FVec F S3x1024 .f32 := (fun x v => Host.reduceAdd x v reducesTo_S3x1024x5120_S3x1024_d2 h_S_) main_v1 main_cst
  let main_v3 : FVec F S3x1024x1 .f32 := broadcastInDim S3x1024x1 ![0, 1] bcast_S3x1024_S3x1024x1_0_1 main_v2
  let main_cst_0 : FVec F S_ .f32 := constant S_ .f32 0x45A00000#32
  let main_v4 : FVec F S3x1024x1 .f32 := broadcastInDim S3x1024x1 ![] bcast_S_S3x1024x1 main_cst_0
  let main_v5 : FVec F S3x1024x1 .f32 := Host.divf main_v3 main_v4
  let main_cst_1 : FVec F S_ .f32 := constant S_ .f32 0x358637BD#32
  let main_v6 : FVec F S3x1024x1 .f32 := broadcastInDim S3x1024x1 ![] bcast_S_S3x1024x1 main_cst_1
  let main_v7 : FVec F S3x1024x1 .f32 := addf main_v5 main_v6
  let main_v8 : FVec F S3x1024x1 .f32 := Host.rsqrt main_v7
  let main_v9 : FVec F S3x1024x5120 .f32 := broadcastInDim S3x1024x5120 ![0, 1, 2] bcast_S3x1024x1_S3x1024x5120_0_1_2 main_v8
  let main_v10 : FVec F S3x1024x5120 .f32 := mulf main_v0 main_v9
  let main_v11 : FVec F S5120 .f32 := (extf .f32 · bitsLt_bf16_f32) main_arg1
  let main_v12 : FVec F S1x1x5120 .f32 := broadcastInDim S1x1x5120 ![2] bcast_S5120_S1x1x5120_2 main_v11
  let main_v13 : FVec F S3x1024x5120 .f32 := broadcastInDim S3x1024x5120 ![0, 1, 2] bcast_S1x1x5120_S3x1024x5120_0_1_2 main_v12
  let main_v14 : FVec F S3x1024x5120 .f32 := mulf main_v10 main_v13
  let main_v15 : FVec F S3x1024x5120 .f32 := Host.absf main_v14
  let main_cst_2 : FVec F S_ .f32 := constant S_ .f32 0xFF800000#32
  let main_v16 : FVec F S3x1024 .f32 := (fun x v => Host.reduce FloatOps.maximumf x v reducesTo_S3x1024x5120_S3x1024_d2 h_S_) main_v15 main_cst_2
  let main_v17 : FVec F S3x1024x1 .f32 := broadcastInDim S3x1024x1 ![0, 1] bcast_S3x1024_S3x1024x1_0_1 main_v16
  let main_cst_3 : FVec F S_ .f32 := constant S_ .f32 0x3B124925#32
  let main_v18 : FVec F S3x1024x1 .f32 := broadcastInDim S3x1024x1 ![] bcast_S_S3x1024x1 main_cst_3
  fn_part1 (F := F) main_v17 main_v18
-- ==== Kernel.lean ====
abbrev S3x1024x5120 : Shape := ⟨3, ![3, 1024, 5120]⟩
abbrev S5120 : Shape := ⟨1, ![5120]⟩
abbrev S640x5120 : Shape := ⟨2, ![640, 5120]⟩
abbrev S640 : Shape := ⟨1, ![640]⟩
abbrev S128 : Shape := ⟨1, ![128]⟩
abbrev S40x128 : Shape := ⟨2, ![40, 128]⟩
abbrev S5x128 : Shape := ⟨2, ![5, 128]⟩
abbrev S1x128 : Shape := ⟨2, ![1, 128]⟩
abbrev S3x5x1024x128 : Shape := ⟨4, ![3, 5, 1024, 128]⟩
abbrev S3x1x1024 : Shape := ⟨3, ![3, 1, 1024]⟩
abbrev S1x256x5120 : Shape := ⟨3, ![1, 256, 5120]⟩
abbrev S1x5x256x128 : Shape := ⟨4, ![1, 5, 256, 128]⟩
abbrev S1x1x256 : Shape := ⟨3, ![1, 1, 256]⟩
abbrev S256x128 : Shape := ⟨2, ![256, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S128x256 : Shape := ⟨2, ![128, 256]⟩
abbrev S1x256 : Shape := ⟨2, ![1, 256]⟩
abbrev S256x5120 : Shape := ⟨2, ![256, 5120]⟩
abbrev S256x640 : Shape := ⟨2, ![256, 640]⟩
abbrev S256 : Shape := ⟨1, ![256]⟩
abbrev S256x1 : Shape := ⟨2, ![256, 1]⟩
abbrev S1x1x256x128 : Shape := ⟨4, ![1, 1, 256, 128]⟩
abbrev S3x1024x5x128 : Shape := ⟨4, ![3, 1024, 5, 128]⟩
abbrev S3x1024x1 : Shape := ⟨3, ![3, 1024, 1]⟩

abbrev nBuf : Space → Nat
  | .hbm => 25
  | .vmem => 23
  | .smem => 0
  | _ => 0

abbrev bufTy : (tb : Table) → Fin (tcTables nBuf tb) → BufTy
  | .hbm, ⟨0, _⟩ => ⟨S3x1024x5120, .bf16⟩
  | .hbm, ⟨1, _⟩ => ⟨S5120, .bf16⟩
  | .hbm, ⟨2, _⟩ => ⟨S640x5120, .fp8e4m3⟩
  | .hbm, ⟨3, _⟩ => ⟨S640, .f32⟩
  | .hbm, ⟨4, _⟩ => ⟨S640x5120, .fp8e4m3⟩
  | .hbm, ⟨5, _⟩ => ⟨S640, .f32⟩
  | .hbm, ⟨6, _⟩ => ⟨S640x5120, .fp8e4m3⟩
  | .hbm, ⟨7, _⟩ => ⟨S640, .f32⟩
  | .hbm, ⟨8, _⟩ => ⟨S128, .bf16⟩
  | .hbm, ⟨9, _⟩ => ⟨S128, .bf16⟩
  | .hbm, ⟨10, _⟩ => ⟨S40x128, .bf16⟩
  | .hbm, ⟨11, _⟩ => ⟨S5x128, .f32⟩
  | .hbm, ⟨12, _⟩ => ⟨S5x128, .f32⟩
  | .hbm, ⟨13, _⟩ => ⟨S5x128, .f32⟩
  | .hbm, ⟨14, _⟩ => ⟨S1x128, .bf16⟩
  | .hbm, ⟨15, _⟩ => ⟨S1x128, .bf16⟩
  | .hbm, ⟨16, _⟩ => ⟨S3x5x1024x128, .bf16⟩
  | .hbm, ⟨17, _⟩ => ⟨S3x5x1024x128, .bf16⟩
  | .hbm, ⟨18, _⟩ => ⟨S3x5x1024x128, .bf16⟩
  | .hbm, ⟨19, _⟩ => ⟨S3x1024x5120, .fp8e4m3⟩
  | .hbm, ⟨20, _⟩ => ⟨S3x1x1024, .f32⟩
  | .hbm, ⟨21, _⟩ => ⟨S3x1024x5x128, .bf16⟩
  | .hbm, ⟨22, _⟩ => ⟨S3x1024x5x128, .bf16⟩
  | .hbm, ⟨23, _⟩ => ⟨S3x1024x5x128, .bf16⟩
  | .hbm, ⟨24, _⟩ => ⟨S3x1024x1, .f32⟩
  | .local _ .vmem, ⟨0, _⟩ => ⟨S1x256x5120, .bf16⟩
  | .local _ .vmem, ⟨1, _⟩ => ⟨S1x256x5120, .bf16⟩
  | .local _ .vmem, ⟨2, _⟩ => ⟨S40x128, .bf16⟩
  | .local _ .vmem, ⟨3, _⟩ => ⟨S640x5120, .fp8e4m3⟩
  | .local _ .vmem, ⟨4, _⟩ => ⟨S5x128, .f32⟩
  | .local _ .vmem, ⟨5, _⟩ => ⟨S640x5120, .fp8e4m3⟩
  | .local _ .vmem, ⟨6, _⟩ => ⟨S5x128, .f32⟩
  | .local _ .vmem, ⟨7, _⟩ => ⟨S640x5120, .fp8e4m3⟩
  | .local _ .vmem, ⟨8, _⟩ => ⟨S5x128, .f32⟩
  | .local _ .vmem, ⟨9, _⟩ => ⟨S1x128, .bf16⟩
  | .local _ .vmem, ⟨10, _⟩ => ⟨S1x128, .bf16⟩
  | .local _ .vmem, ⟨11, _⟩ => ⟨S1x5x256x128, .bf16⟩
  | .local _ .vmem, ⟨12, _⟩ => ⟨S1x5x256x128, .bf16⟩
  | .local _ .vmem, ⟨13, _⟩ => ⟨S1x5x256x128, .bf16⟩
  | .local _ .vmem, ⟨14, _⟩ => ⟨S1x5x256x128, .bf16⟩
  | .local _ .vmem, ⟨15, _⟩ => ⟨S1x5x256x128, .bf16⟩
  | .local _ .vmem, ⟨16, _⟩ => ⟨S1x5x256x128, .bf16⟩
  | .local _ .vmem, ⟨17, _⟩ => ⟨S1x256x5120, .fp8e4m3⟩
  | .local _ .vmem, ⟨18, _⟩ => ⟨S1x256x5120, .fp8e4m3⟩
  | .local _ .vmem, ⟨19, _⟩ => ⟨S1x1x256, .f32⟩
  | .local _ .vmem, ⟨20, _⟩ => ⟨S1x1x256, .f32⟩
  | .local _ .vmem, ⟨21, _⟩ => ⟨S40x128, .f32⟩
  | .local _ .vmem, ⟨22, _⟩ => ⟨S256x128, .f32⟩
  | _, _ => ⟨S3x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![3, 4], ![false, false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  v340
def k0_off1 (k0_t1 : Fin k0_t1_loop.trips) : Fin 3 → Nat :=
  let c0_194 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v344 : Index := Scalar.indexCast v341
  let c0_195 : Index := 0#32
  ![0, v344.toNat, 0]
def k0_off2 (k0_t1 : Fin k0_t1_loop.trips) : Fin 3 → Nat :=
  let c0_198 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v355 : Index := Scalar.indexCast v341
  let c128 : Index := 128#32
  ![0, v355.toNat, 128]
def k0_off3 (k0_t1 : Fin k0_t1_loop.trips) : Fin 3 → Nat :=
  let c0_201 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v366 : Index := Scalar.indexCast v341
  let c256 : Index := 256#32
  ![0, v366.toNat, 256]
def k0_off4 (k0_t1 : Fin k0_t1_loop.trips) : Fin 3 → Nat :=
  let c0_204 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v377 : Index := Scalar.indexCast v341
  let c384 : Index := 384#32
  ![0, v377.toNat, 384]
def k0_off5 (k0_t1 : Fin k0_t1_loop.trips) : Fin 3 → Nat :=
  let c0_207 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v388 : Index := Scalar.indexCast v341
  let c512 : Index := 512#32
  ![0, v388.toNat, 512]
def k0_off6 (k0_t1 : Fin k0_t1_loop.trips) : Fin 3 → Nat :=
  let c0_210 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v399 : Index := Scalar.indexCast v341
  let c640 : Index := 640#32
  ![0, v399.toNat, 640]
def k0_off7 (k0_t1 : Fin k0_t1_loop.trips) : Fin 3 → Nat :=
  let c0_212 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v410 : Index := Scalar.indexCast v341
  let c768 : Index := 768#32
  ![0, v410.toNat, 768]
def k0_off8 (k0_t1 : Fin k0_t1_loop.trips) : Fin 3 → Nat :=
  let c0_214 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v421 : Index := Scalar.indexCast v341
  let c896 : Index := 896#32
  ![0, v421.toNat, 896]
def k0_off9 (k0_t1 : Fin k0_t1_loop.trips) : Fin 3 → Nat :=
  let c0_216 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v432 : Index := Scalar.indexCast v341
  let c1024 : Index := 1024#32
  ![0, v432.toNat, 1024]
def k0_off10 (k0_t1 : Fin k0_t1_loop.trips) : Fin 3 → Nat :=
  let c0_218 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v443 : Index := Scalar.indexCast v341
  let c1152 : Index := 1152#32
  ![0, v443.toNat, 1152]
def k0_off11 (k0_t1 : Fin k0_t1_loop.trips) : Fin 3 → Nat :=
  let c0_220 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v454 : Index := Scalar.indexCast v341
  let c1280 : Index := 1280#32
  ![0, v454.toNat, 1280]
def k0_off12 (k0_t1 : Fin k0_t1_loop.trips) : Fin 3 → Nat :=
  let c0_222 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v465 : Index := Scalar.indexCast v341
  let c1408 : Index := 1408#32
  ![0, v465.toNat, 1408]
def k0_off13 (k0_t1 : Fin k0_t1_loop.trips) : Fin 3 → Nat :=
  let c0_224 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v476 : Index := Scalar.indexCast v341
  let c1536 : Index := 1536#32
  ![0, v476.toNat, 1536]
def k0_off14 (k0_t1 : Fin k0_t1_loop.trips) : Fin 3 → Nat :=
  let c0_226 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v487 : Index := Scalar.indexCast v341
  let c1664 : Index := 1664#32
  ![0, v487.toNat, 1664]
def k0_off15 (k0_t1 : Fin k0_t1_loop.trips) : Fin 3 → Nat :=
  let c0_228 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v498 : Index := Scalar.indexCast v341
  let c1792 : Index := 1792#32
  ![0, v498.toNat, 1792]
def k0_off16 (k0_t1 : Fin k0_t1_loop.trips) : Fin 3 → Nat :=
  let c0_230 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v509 : Index := Scalar.indexCast v341
  let c1920 : Index := 1920#32
  ![0, v509.toNat, 1920]
def k0_off17 (k0_t1 : Fin k0_t1_loop.trips) : Fin 3 → Nat :=
  let c0_232 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v520 : Index := Scalar.indexCast v341
  let c2048 : Index := 2048#32
  ![0, v520.toNat, 2048]
def k0_off18 (k0_t1 : Fin k0_t1_loop.trips) : Fin 3 → Nat :=
  let c0_234 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v531 : Index := Scalar.indexCast v341
  let c2176 : Index := 2176#32
  ![0, v531.toNat, 2176]
def k0_off19 (k0_t1 : Fin k0_t1_loop.trips) : Fin 3 → Nat :=
  let c0_236 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v542 : Index := Scalar.indexCast v341
  let c2304 : Index := 2304#32
  ![0, v542.toNat, 2304]
def k0_off20 (k0_t1 : Fin k0_t1_loop.trips) : Fin 3 → Nat :=
  let c0_238 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v553 : Index := Scalar.indexCast v341
  let c2432 : Index := 2432#32
  ![0, v553.toNat, 2432]
def k0_off21 (k0_t1 : Fin k0_t1_loop.trips) : Fin 3 → Nat :=
  let c0_240 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v564 : Index := Scalar.indexCast v341
  let c2560 : Index := 2560#32
  ![0, v564.toNat, 2560]
def k0_off22 (k0_t1 : Fin k0_t1_loop.trips) : Fin 3 → Nat :=
  let c0_242 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v575 : Index := Scalar.indexCast v341
  let c2688 : Index := 2688#32
  ![0, v575.toNat, 2688]
def k0_off23 (k0_t1 : Fin k0_t1_loop.trips) : Fin 3 → Nat :=
  let c0_244 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v586 : Index := Scalar.indexCast v341
  let c2816 : Index := 2816#32
  ![0, v586.toNat, 2816]
def k0_off24 (k0_t1 : Fin k0_t1_loop.trips) : Fin 3 → Nat :=
  let c0_246 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v597 : Index := Scalar.indexCast v341
  let c2944 : Index := 2944#32
  ![0, v597.toNat, 2944]
def k0_off25 (k0_t1 : Fin k0_t1_loop.trips) : Fin 3 → Nat :=
  let c0_248 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v608 : Index := Scalar.indexCast v341
  let c3072 : Index := 3072#32
  ![0, v608.toNat, 3072]
def k0_off26 (k0_t1 : Fin k0_t1_loop.trips) : Fin 3 → Nat :=
  let c0_250 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v619 : Index := Scalar.indexCast v341
  let c3200 : Index := 3200#32
  ![0, v619.toNat, 3200]
def k0_off27 (k0_t1 : Fin k0_t1_loop.trips) : Fin 3 → Nat :=
  let c0_252 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v630 : Index := Scalar.indexCast v341
  let c3328 : Index := 3328#32
  ![0, v630.toNat, 3328]
def k0_off28 (k0_t1 : Fin k0_t1_loop.trips) : Fin 3 → Nat :=
  let c0_254 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v641 : Index := Scalar.indexCast v341
  let c3456 : Index := 3456#32
  ![0, v641.toNat, 3456]
def k0_off29 (k0_t1 : Fin k0_t1_loop.trips) : Fin 3 → Nat :=
  let c0_256 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v652 : Index := Scalar.indexCast v341
  let c3584 : Index := 3584#32
  ![0, v652.toNat, 3584]
def k0_off30 (k0_t1 : Fin k0_t1_loop.trips) : Fin 3 → Nat :=
  let c0_258 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v663 : Index := Scalar.indexCast v341
  let c3712 : Index := 3712#32
  ![0, v663.toNat, 3712]
def k0_off31 (k0_t1 : Fin k0_t1_loop.trips) : Fin 3 → Nat :=
  let c0_260 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v674 : Index := Scalar.indexCast v341
  let c3840 : Index := 3840#32
  ![0, v674.toNat, 3840]
def k0_off32 (k0_t1 : Fin k0_t1_loop.trips) : Fin 3 → Nat :=
  let c0_262 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v685 : Index := Scalar.indexCast v341
  let c3968 : Index := 3968#32
  ![0, v685.toNat, 3968]
def k0_off33 (k0_t1 : Fin k0_t1_loop.trips) : Fin 3 → Nat :=
  let c0_264 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v696 : Index := Scalar.indexCast v341
  let c4096 : Index := 4096#32
  ![0, v696.toNat, 4096]
def k0_off34 (k0_t1 : Fin k0_t1_loop.trips) : Fin 3 → Nat :=
  let c0_266 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v707 : Index := Scalar.indexCast v341
  let c4224 : Index := 4224#32
  ![0, v707.toNat, 4224]
def k0_off35 (k0_t1 : Fin k0_t1_loop.trips) : Fin 3 → Nat :=
  let c0_268 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v718 : Index := Scalar.indexCast v341
  let c4352 : Index := 4352#32
  ![0, v718.toNat, 4352]
def k0_off36 (k0_t1 : Fin k0_t1_loop.trips) : Fin 3 → Nat :=
  let c0_270 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v729 : Index := Scalar.indexCast v341
  let c4480 : Index := 4480#32
  ![0, v729.toNat, 4480]
def k0_off37 (k0_t1 : Fin k0_t1_loop.trips) : Fin 3 → Nat :=
  let c0_272 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v740 : Index := Scalar.indexCast v341
  let c4608 : Index := 4608#32
  ![0, v740.toNat, 4608]
def k0_off38 (k0_t1 : Fin k0_t1_loop.trips) : Fin 3 → Nat :=
  let c0_274 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v751 : Index := Scalar.indexCast v341
  let c4736 : Index := 4736#32
  ![0, v751.toNat, 4736]
def k0_off39 (k0_t1 : Fin k0_t1_loop.trips) : Fin 3 → Nat :=
  let c0_276 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v762 : Index := Scalar.indexCast v341
  let c4864 : Index := 4864#32
  ![0, v762.toNat, 4864]
def k0_off40 (k0_t1 : Fin k0_t1_loop.trips) : Fin 3 → Nat :=
  let c0_278 : Index := 0#32
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v773 : Index := Scalar.indexCast v341
  let c4992 : Index := 4992#32
  ![0, v773.toNat, 4992]
def k0_off41 (k0_t1 : Fin k0_t1_loop.trips) : Fin 2 → Nat :=
  let c0_i32 : BitVec 32 := 0#32
  let c1_i32 : BitVec 32 := 1#32
  let arg19 : BitVec 32 := Scf.iv c0_i32 c1_i32 k0_t1
  let c32_i32 : BitVec 32 := 32#32
  let v340 : BitVec 32 := Scalar.muli arg19 c32_i32
  let v341 : BitVec 32 := v340
  let v1593 : Index := Scalar.indexCast v341
  let c0_620 : Index := 0#32
  ![v1593.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S640x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S5x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S5x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x5x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x5x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x5x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x5120 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S3x1024x5120 : Shape := ⟨3, ![3, 1024, 5120]⟩
abbrev S5120 : Shape := ⟨1, ![5120]⟩
abbrev S640x5120 : Shape := ⟨2, ![640, 5120]⟩
abbrev S640 : Shape := ⟨1, ![640]⟩
abbrev S128 : Shape := ⟨1, ![128]⟩
abbrev S3x1024x5x128 : Shape := ⟨4, ![3, 1024, 5, 128]⟩
abbrev S3x1024x1 : Shape := ⟨3, ![3, 1024, 1]⟩
abbrev S3x1024 : Shape := ⟨2, ![3, 1024]⟩
abbrev S1x1x5120 : Shape := ⟨3, ![1, 1, 5120]⟩
abbrev S3x1024x640 : Shape := ⟨3, ![3, 1024, 640]⟩
abbrev S1x1x640 : Shape := ⟨3, ![1, 1, 640]⟩
abbrev S3x1024x5 : Shape := ⟨3, ![3, 1024, 5]⟩
abbrev S3x1024x5x1 : Shape := ⟨4, ![3, 1024, 5, 1]⟩
abbrev S1x1x1x128 : Shape := ⟨4, ![1, 1, 1, 128]⟩

abbrev nBuf : Space → Nat
  | .hbm => 15
  | .vmem => 15
  | .smem => 0
  | _ => 0

abbrev bufTy : (tb : Table) → Fin (tcTables nBuf tb) → BufTy
  | .hbm, ⟨0, _⟩ => ⟨S3x1024x5120, .bf16⟩
  | .hbm, ⟨1, _⟩ => ⟨S5120, .bf16⟩
  | .hbm, ⟨2, _⟩ => ⟨S640x5120, .fp8e4m3⟩
  | .hbm, ⟨3, _⟩ => ⟨S640, .f32⟩
  | .hbm, ⟨4, _⟩ => ⟨S640x5120, .fp8e4m3⟩
  | .hbm, ⟨5, _⟩ => ⟨S640, .f32⟩
  | .hbm, ⟨6, _⟩ => ⟨S640x5120, .fp8e4m3⟩
  | .hbm, ⟨7, _⟩ => ⟨S640, .f32⟩
  | .hbm, ⟨8, _⟩ => ⟨S128, .bf16⟩
  | .hbm, ⟨9, _⟩ => ⟨S128, .bf16⟩
  | .hbm, ⟨10, _⟩ => ⟨S3x1024x5x128, .bf16⟩
  | .hbm, ⟨11, _⟩ => ⟨S3x1024x5x128, .bf16⟩
  | .hbm, ⟨12, _⟩ => ⟨S3x1024x5x128, .bf16⟩
  | .hbm, ⟨13, _⟩ => ⟨S3x1024x5120, .fp8e4m3⟩
  | .hbm, ⟨14, _⟩ => ⟨S3x1024x1, .f32⟩
  | .local _ .vmem, ⟨0, _⟩ => ⟨S3x1024x5120, .bf16⟩
  | .local _ .vmem, ⟨1, _⟩ => ⟨S5120, .bf16⟩
  | .local _ .vmem, ⟨2, _⟩ => ⟨S640x5120, .fp8e4m3⟩
  | .local _ .vmem, ⟨3, _⟩ => ⟨S640, .f32⟩
  | .local _ .vmem, ⟨4, _⟩ => ⟨S640x5120, .fp8e4m3⟩
  | .local _ .vmem, ⟨5, _⟩ => ⟨S640, .f32⟩
  | .local _ .vmem, ⟨6, _⟩ => ⟨S640x5120, .fp8e4m3⟩
  | .local _ .vmem, ⟨7, _⟩ => ⟨S640, .f32⟩
  | .local _ .vmem, ⟨8, _⟩ => ⟨S128, .bf16⟩
  | .local _ .vmem, ⟨9, _⟩ => ⟨S128, .bf16⟩
  | .local _ .vmem, ⟨10, _⟩ => ⟨S3x1024x5x128, .bf16⟩
  | .local _ .vmem, ⟨11, _⟩ => ⟨S3x1024x5x128, .bf16⟩
  | .local _ .vmem, ⟨12, _⟩ => ⟨S3x1024x5x128, .bf16⟩
  | .local _ .vmem, ⟨13, _⟩ => ⟨S3x1024x5120, .fp8e4m3⟩
  | .local _ .vmem, ⟨14, _⟩ => ⟨S3x1024x1, .f32⟩
  | _, _ => ⟨S3x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S3x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1024x5x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1024x5x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1024x5x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1024x5120 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x1024x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Chunks.lean ====
/-
  One group of 32 tokens: the kernel walks the row in 40 chunks of 128 lanes. Here the running sum of squares and the
  running largest |value * gain| are given as recursions over the chunks, and the words of the kernel's loop body are
  these recursions after 39 chunks.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

section
variable (arg2 : Memref sig .tc .vmem S1x256x5120 .bf16) (arg17 : Memref sig .tc .vmem S40x128 .f32)
  (X2 : BufTy.Contents (Elt Ideal) arg2.view.ty) (X17 : BufTy.Contents (Elt Ideal) arg17.view.ty)
  (k : Fin k0_t1_loop.trips)

/-- The first row of trip `k`, as the kernel computes it. -/
def rowWord : ℕ := (Scalar.indexCast (Scalar.muli (Scf.iv 0#32 1#32 k.val) 32#32) : Index).toNat

/-- The first row of trip `k` is `32 k`. -/
theorem rowWord_eq : rowWord k = 32 * k.val := by
  have h : ∀ k : Fin k0_t1_loop.trips, rowWord k = 32 * k.val := by decide +kernel
  exact h k

theorem trip_lt : k.val < 8 := Nat.lt_of_lt_of_le k.isLt k0_t1_abs.2.1

theorem off_inb (c : Fin 40) : ∀ a, (![0, rowWord k, 128 * c.val] : Fin 3 → Nat) a + S1x32x128.size a ≤ S1x256x5120.size a := by
  have hk := trip_lt k
  have hc := c.isLt
  have hr := rowWord_eq k
  intro a
  fin_cases a
  · show 0 + 1 ≤ 1; omega
  · show rowWord k + 32 ≤ 256; omega
  · show 128 * c.val + 128 ≤ 5120; omega

theorem gain_inb (c : Fin 40) : ∀ a, (![c.val, 0] : Fin 2 → Nat) a + S1x128.size a ≤ S40x128.size a := by
  have hc := c.isLt
  intro a
  fin_cases a
  · show c.val + 1 ≤ 40; omega
  · show 0 + 128 ≤ 128; omega

/-- The load of chunk `c` of the group's rows. -/
def chunkLd (c : Fin 40) : Vec Ideal S1x32x128 .bf16 :=
  arg2.view.readAt (Elt Ideal) (Rect.unit (s := S1x256x5120) ![0, rowWord k, 128 * c.val] S1x32x128.size (off_inb k c)).toLoadRect X2

/-- Chunk `c` of the group's rows in float32. -/
def chunk (c : Fin 40) : FVec Ideal S32x128 .f32 :=
  extf .f32 (shapeCast S32x128 (chunkLd arg2 X2 k c) shapeCasts_S1x32x128_S32x128) bitsLt_bf16_f32

/-- The load of chunk `c` of the gain. -/
def gainLd (c : Fin 40) : Vec Ideal S1x128 .f32 :=
  arg17.view.readAt (Elt Ideal) (Rect.unit (s := S40x128) ![c.val, 0] S1x128.size (gain_inb c)).toLoadRect X17

/-- The running sum of squares after `n` chunks. -/
def ssqV : (n : ℕ) → n ≤ 40 → FVec Ideal S32x128 .f32
  | 0, _ => broadcast S32x128 (Scalar.ofBits .f32 0x00000000#32)
  | n + 1, h => addf (ssqV n (Nat.le_of_succ_le h)) (mulf (chunk arg2 X2 k ⟨n, h⟩) (chunk arg2 X2 k ⟨n, h⟩))

/-- The running largest |value * gain| after `n` chunks. -/
def maxV : (n : ℕ) → n ≤ 40 → FVec Ideal S32x128 .f32
  | 0, _ => broadcast S32x128 (Scalar.ofBits .f32 0x00000000#32)
  | n + 1, h => maximumf (maxV n (Nat.le_of_succ_le h))
      (absf (mulf (chunk arg2 X2 k ⟨n, h⟩) (broadcastTo S32x128 (gainLd arg17 X17 ⟨n, h⟩) broadcasts_S1x128_S32x128)))

/-- The kernel's word for chunk 39. -/
theorem v776_eq : trip_k0_t1.sl.v776 arg2 X2 k = chunk arg2 X2 k 39 := rfl

/-- The kernel's sum of squares after 39 chunks. -/
theorem v768_eq : trip_k0_t1.sl.v768 arg2 X2 k = ssqV arg2 X2 k 39 (by decide) := rfl

/-- The kernel's largest |value * gain| after 39 chunks. -/
theorem v772_eq : trip_k0_t1.sl.v772 arg2 arg17 X2 X17 k = maxV arg2 arg17 X2 X17 k 39 (by decide) := rfl

end

end Cert.Proof
-- ==== Proof.Exponent.lean ====
/-
  The power-of-two scale. The kernel finds the exponent field of a float `y ≥ 0` bit by bit and builds from it the scale
  and its reciprocal as float words; the mathematics says scale = 2^e with 2^(e-1) ≤ y < 2^e, computed by a logarithm.
  Here: the two agree over the extended reals wherever `y = 0` or 2^-126 ≤ y < 2^126.
-/
module

public import Idealize.ShloMosaic.PureOps.Ideal
public import Idealize.ShloMosaic.PureOps.Ideal.Laws

@[expose] public section

noncomputable section

namespace Cert.Proof

open Idealize.ShloMosaic

/-- The extended real whose float32 word has exponent field `t` and no mantissa bits. -/
def pw (t : ℕ) : EReal := Ideal.ofBits .f32 (BitVec.ofNat 32 t <<< 23)

/-- Field zero is the number zero. -/
theorem pw_zero : pw 0 = 0 := by
  simp [pw]

/-- A field between 1 and 254 is the power of two with the bias 127 taken off. -/
theorem pw_of_mem (t : ℕ) (h1 : 1 ≤ t) (h2 : t ≤ 254) : pw t = (((2 : ℝ) ^ ((t : ℤ) - 127) : ℝ) : EReal) := by
  have hneg : ((BitVec.ofNat 32 t <<< 23).extractLsb' 31 1 == 1#1) = false := by
    have : ∀ t : Fin 255, ((BitVec.ofNat 32 t.val <<< 23).extractLsb' 31 1 == 1#1) = false := by decide +kernel
    exact this ⟨t, by omega⟩
  have hex : ((BitVec.ofNat 32 t <<< 23).extractLsb' 23 8).toNat = t := by
    have : ∀ t : Fin 255, ((BitVec.ofNat 32 t.val <<< 23).extractLsb' 23 8).toNat = t.val := by decide +kernel
    exact this ⟨t, by omega⟩
  have hfr : ((BitVec.ofNat 32 t <<< 23).extractLsb' 0 23).toNat = 0 := by
    have : ∀ t : Fin 255, ((BitVec.ofNat 32 t.val <<< 23).extractLsb' 0 23).toNat = 0 := by decide +kernel
    exact this ⟨t, by omega⟩
  unfold pw Ideal.ofBits Ideal.ieee
  simp only [hneg, hex, hfr]
  rw [if_neg (by omega), if_neg (by omega)]
  refine congrArg _ ?_
  simp only [Bool.false_eq_true, if_false, Nat.add_zero]
  rw [Nat.cast_pow, Nat.cast_ofNat, one_mul, show (2 : ℝ) ^ 23 = (2 : ℝ) ^ (23 : ℤ) by norm_num, ← zpow_add₀ (by norm_num : (2 : ℝ) ≠ 0)]
  refine congrArg (fun n : ℤ => (2 : ℝ) ^ n) ?_
  norm_num

/-- Field 255 is plus infinity. -/
theorem pw_top : pw 255 = ⊤ := by
  unfold pw Ideal.ofBits Ideal.ieee
  simp only [show ((BitVec.ofNat 32 255 <<< 23).extractLsb' 31 1 == 1#1) = false by decide +kernel,
    show ((BitVec.ofNat 32 255 <<< 23).extractLsb' 23 8).toNat = 255 by decide +kernel,
    show ((BitVec.ofNat 32 255 <<< 23).extractLsb' 0 23).toNat = 0 by decide +kernel]
  simp

/-- The fields order the numbers they name. -/
theorem pw_mono {s t : ℕ} (h : s ≤ t) (ht : t ≤ 255) : pw s ≤ pw t := by
  rcases Nat.lt_or_ge t 255 with h2 | h2
  · rcases Nat.eq_zero_or_pos s with rfl | hs
    · rcases Nat.eq_zero_or_pos t with rfl | ht0
      · exact le_rfl
      · rw [pw_zero, pw_of_mem t ht0 (by omega)]
        exact_mod_cast (by positivity : (0 : ℝ) ≤ 2 ^ ((t : ℤ) - 127))
    · rw [pw_of_mem s hs (by omega), pw_of_mem t (by omega) (by omega), EReal.coe_le_coe_iff]
      exact zpow_le_zpow_right₀ (by norm_num) (by omega)
  · have : t = 255 := by omega
    subst this
    rw [pw_top]
    exact le_top

/-- One step of the kernel's search: keep the trial field when its number is still at most `y`. -/
def trialBits (y : EReal) (b d : BitVec 32) : BitVec 32 :=
  if Ideal.ofBits .f32 ((b + d) <<< 23) ≤ y then b + d else b

/-- The search: the eight trial bits, from the highest. -/
def fieldBits (y : EReal) : BitVec 32 :=
  trialBits y (trialBits y (trialBits y (trialBits y (trialBits y (trialBits y (trialBits y (trialBits y 0#32 128#32) 64#32)
    32#32) 16#32) 8#32) 4#32) 2#32) 1#32

/-- A step on words is the step on numbers, and keeps the true field `t` in the halved interval. -/
theorem trialBits_step {y : EReal} {t : ℕ} (ht : t ≤ 254) (h1 : pw t ≤ y) (h2 : y < pw (t + 1)) (b d : ℕ) (hd : 1 ≤ d)
    (hb : b ≤ t) (hb' : t < b + 2 * d) (hbd : b + 2 * d ≤ 256) :
    ∃ b', trialBits y (BitVec.ofNat 32 b) (BitVec.ofNat 32 d) = BitVec.ofNat 32 b' ∧ b' ≤ t ∧ t < b' + d ∧ b' + d ≤ 256 := by
  have hw : BitVec.ofNat 32 b + BitVec.ofNat 32 d = BitVec.ofNat 32 (b + d) := (BitVec.ofNat_add b d).symm
  unfold trialBits
  rw [hw]
  by_cases h : b + d ≤ t
  · have hc : Ideal.ofBits .f32 (BitVec.ofNat 32 (b + d) <<< 23) ≤ y := (pw_mono h (by omega)).trans h1
    rw [if_pos hc]
    exact ⟨b + d, rfl, h, by omega, by omega⟩
  · have hc : ¬ Ideal.ofBits .f32 (BitVec.ofNat 32 (b + d) <<< 23) ≤ y :=
      not_le.mpr (h2.trans_le (pw_mono (by omega) (by omega)))
    rw [if_neg hc]
    exact ⟨b, rfl, hb, by omega, by omega⟩

/-- The search finds the field `t` of the numbers between the power of two `t` names and the next one. -/
theorem fieldBits_eq {y : EReal} {t : ℕ} (ht : t ≤ 254) (h1 : pw t ≤ y) (h2 : y < pw (t + 1)) :
    fieldBits y = BitVec.ofNat 32 t := by
  unfold fieldBits
  obtain ⟨b1, e1, l1, u1, w1⟩ := trialBits_step ht h1 h2 0 128 (by omega) (by omega) (by omega) (by omega)
  obtain ⟨b2, e2, l2, u2, w2⟩ := trialBits_step ht h1 h2 b1 64 (by omega) l1 (by omega) (by omega)
  obtain ⟨b3, e3, l3, u3, w3⟩ := trialBits_step ht h1 h2 b2 32 (by omega) l2 (by omega) (by omega)
  obtain ⟨b4, e4, l4, u4, w4⟩ := trialBits_step ht h1 h2 b3 16 (by omega) l3 (by omega) (by omega)
  obtain ⟨b5, e5, l5, u5, w5⟩ := trialBits_step ht h1 h2 b4 8 (by omega) l4 (by omega) (by omega)
  obtain ⟨b6, e6, l6, u6, w6⟩ := trialBits_step ht h1 h2 b5 4 (by omega) l5 (by omega) (by omega)
  obtain ⟨b7, e7, l7, u7, w7⟩ := trialBits_step ht h1 h2 b6 2 (by omega) l6 (by omega) (by omega)
  obtain ⟨b8, e8, l8, u8, w8⟩ := trialBits_step ht h1 h2 b7 1 (by omega) l7 (by omega) (by omega)
  rw [e1, e2, e3, e4, e5, e6, e7, e8]
  congr 1
  omega

/-- The field the kernel goes on with: the found one where it is neither 0 nor 255, else 126 (whose scale is one). -/
def biasedBits (y : EReal) : BitVec 32 :=
  if (0#32).slt (fieldBits y) && (fieldBits y).slt 255#32 then fieldBits y else 126#32

/-- The scale as the kernel builds it: the next field's word. -/
def scaleBits (y : EReal) : EReal := Ideal.ofBits .f32 ((biasedBits y + 1#32) <<< 23)

/-- The scale's reciprocal as the kernel builds it. -/
def inverseBits (y : EReal) : EReal := Ideal.ofBits .f32 ((253#32 - biasedBits y) <<< 23)

/-- The exponent by the logarithm: zero for a zero row, else the integer e with 2^(e-1) ≤ y < 2^e. -/
def expo (a y : EReal) : EReal :=
  if a = 0 then 0 else Ideal.liftRound Int.floor (Ideal.div (Ideal.log y) (Ideal.log 2)) + 1

/-- Where the scale and its reciprocal are normal float32 numbers: a zero row, or 2^-126 ≤ y < 2^126. -/
def InRange (a y : EReal) : Prop := a = 0 ∨ (pw 1 ≤ y ∧ y < pw 253)

/-- A positive `y` in range lies between two neighbouring powers of two. -/
theorem exists_field {y : EReal} (h1 : pw 1 ≤ y) (h2 : y < pw 253) :
    ∃ t : ℕ, 1 ≤ t ∧ t ≤ 252 ∧ pw t ≤ y ∧ y < pw (t + 1) := by
  classical
  let t := Nat.findGreatest (fun t => pw t ≤ y) 252
  have ht : pw t ≤ y := Nat.findGreatest_spec (P := fun t => pw t ≤ y) (show 1 ≤ 252 by omega) h1
  have ht1 : 1 ≤ t := Nat.le_findGreatest (by omega) h1
  have ht2 : t ≤ 252 := Nat.findGreatest_le 252
  refine ⟨t, ht1, ht2, ht, ?_⟩
  rcases Nat.lt_or_ge t 252 with h | h
  · by_contra hc
    exact Nat.findGreatest_is_greatest (P := fun t => pw t ≤ y) (k := t + 1) (n := 252) (Nat.lt_succ_self t) (by omega)
      (not_lt.mp hc)
  · have : t = 252 := by omega
    rw [this]
    exact h2

/-- The logarithm's exponent of a `y` between two neighbouring powers of two. -/
theorem expo_of_field {a y : EReal} (ha : a ≠ 0) {t : ℕ} (ht1 : 1 ≤ t) (ht2 : t ≤ 252) (h1 : pw t ≤ y) (h2 : y < pw (t + 1)) :
    expo a y = (((t : ℝ) - 126 : ℝ) : EReal) := by
  rw [pw_of_mem t ht1 (by omega)] at h1
  rw [pw_of_mem (t + 1) (by omega) (by omega)] at h2
  induction y using EReal.rec with
  | bot => exact absurd h1 (by simp)
  | top => exact absurd h2 (by simp)
  | coe r =>
    rw [EReal.coe_le_coe_iff] at h1
    rw [EReal.coe_lt_coe_iff] at h2
    have hr : 0 < r := lt_of_lt_of_le (by positivity) h1
    have hl2 : 0 < Real.log 2 := Real.log_pos (by norm_num)
    have e1 : Ideal.log (r : EReal) = ((Real.log r : ℝ) : EReal) := if_neg (not_le.mpr hr)
    have e2 : Ideal.log (2 : EReal) = ((Real.log 2 : ℝ) : EReal) :=
      (congrArg Ideal.log (show (2 : EReal) = ((2 : ℝ) : EReal) by norm_cast)).trans (if_neg (by norm_num))
    have e3 : Ideal.div ((Real.log r : ℝ) : EReal) ((Real.log 2 : ℝ) : EReal) = ((Real.log r / Real.log 2 : ℝ) : EReal) := by
      unfold Ideal.div
      rw [if_neg (by exact_mod_cast hl2.ne'), ← EReal.coe_inv, ← EReal.coe_mul, div_eq_mul_inv]
    have e4 : ⌊Real.log r / Real.log 2⌋ = (t : ℤ) - 127 := by
      rw [Int.floor_eq_iff]
      have l1 := Real.log_le_log (by positivity) h1
      have l2 := Real.log_lt_log hr h2
      rw [Real.log_zpow] at l1 l2
      refine ⟨(le_div_iff₀ hl2).mpr l1, (div_lt_iff₀ hl2).mpr (l2.trans_eq ?_)⟩
      push_cast
      ring
    unfold expo
    rw [if_neg ha, e1, e2, e3]
    show (((⌊Real.log r / Real.log 2⌋ : ℤ) : ℝ) : EReal) + 1 = _
    rw [e4, show (1 : EReal) = ((1 : ℝ) : EReal) by norm_cast, ← EReal.coe_add]
    congr 1
    push_cast
    ring

/-- Two to an integer power, by the ideal exponential. -/
theorem exp2_int (n : ℤ) : Ideal.exp2 (((n : ℝ) : ℝ) : EReal) = (((2 : ℝ) ^ n : ℝ) : EReal) := by
  show ((Real.rpow 2 (n : ℝ) : ℝ) : EReal) = _
  congr 1
  exact Real.rpow_intCast 2 n

/-- The words of a regular field. -/
theorem biasedBits_of_field {y : EReal} {t : ℕ} (ht1 : 1 ≤ t) (ht2 : t ≤ 252) (h1 : pw t ≤ y) (h2 : y < pw (t + 1)) :
    biasedBits y = BitVec.ofNat 32 t := by
  have hreg : ∀ t : Fin 253, 1 ≤ t.val → ((0#32).slt (BitVec.ofNat 32 t.val) && (BitVec.ofNat 32 t.val).slt 255#32) = true := by
    decide +kernel
  unfold biasedBits
  rw [fieldBits_eq (by omega) h1 h2, if_pos (hreg ⟨t, by omega⟩ ht1)]

/-- A zero `y` has the field zero, so the kernel goes on with 126. -/
theorem biasedBits_zero : biasedBits 0 = 126#32 := by
  have h : fieldBits 0 = BitVec.ofNat 32 0 := by
    refine fieldBits_eq (by omega) pw_zero.le ?_
    rw [pw_of_mem 1 (by omega) (by omega)]
    exact_mod_cast (by positivity : (0 : ℝ) < 2 ^ (((1 : ℕ) : ℤ) - 127))
  unfold biasedBits
  rw [h, if_neg (by decide)]

/-- In range, the kernel's scale is two to the logarithm's exponent. -/
theorem scaleBits_eq {a y : EReal} (hy : a = 0 → y = 0) (h : InRange a y) : scaleBits y = Ideal.exp2 (expo a y) := by
  unfold scaleBits
  by_cases ha : a = 0
  · rw [hy ha, biasedBits_zero, show (126#32 + 1#32) = BitVec.ofNat 32 127 by decide]
    show pw 127 = _
    unfold expo
    rw [if_pos ha, pw_of_mem 127 (by omega) (by omega)]
    have := exp2_int 0
    simpa using this.symm
  · obtain ⟨t, ht1, ht2, h1, h2⟩ := exists_field (h.resolve_left ha).1 (h.resolve_left ha).2
    rw [biasedBits_of_field ht1 ht2 h1 h2, expo_of_field ha ht1 ht2 h1 h2]
    have e := exp2_int ((t : ℤ) - 126)
    rw [show (((t : ℤ) - 126 : ℤ) : ℝ) = (t : ℝ) - 126 by push_cast; rfl] at e
    rw [e, show BitVec.ofNat 32 t + 1#32 = BitVec.ofNat 32 (t + 1) from (BitVec.ofNat_add t 1).symm]
    show pw (t + 1) = _
    rw [pw_of_mem (t + 1) (by omega) (by omega)]
    congr 2
    push_cast
    ring

/-- In range, the kernel's reciprocal is two to minus the logarithm's exponent. -/
theorem inverseBits_eq {a y : EReal} (hy : a = 0 → y = 0) (h : InRange a y) : inverseBits y = Ideal.exp2 (0 - expo a y) := by
  unfold inverseBits
  by_cases ha : a = 0
  · rw [hy ha, biasedBits_zero, show (253#32 - 126#32) = BitVec.ofNat 32 127 by decide]
    show pw 127 = _
    unfold expo
    rw [if_pos ha, pw_of_mem 127 (by omega) (by omega)]
    have := exp2_int 0
    simpa using this.symm
  · obtain ⟨t, ht1, ht2, h1, h2⟩ := exists_field (h.resolve_left ha).1 (h.resolve_left ha).2
    rw [biasedBits_of_field ht1 ht2 h1 h2, expo_of_field ha ht1 ht2 h1 h2]
    have e := exp2_int (126 - (t : ℤ))
    rw [show ((126 - (t : ℤ) : ℤ) : ℝ) = 126 - (t : ℝ) by push_cast; rfl] at e
    have hs : (0 : EReal) - (((t : ℝ) - 126 : ℝ) : EReal) = ((126 - (t : ℝ) : ℝ) : EReal) := by
      rw [show (0 : EReal) = ((0 : ℝ) : EReal) by norm_cast, ← EReal.coe_sub]
      congr 1
      ring
    have hw : ∀ t : Fin 253, 253#32 - BitVec.ofNat 32 t.val = BitVec.ofNat 32 (253 - t.val) := by decide +kernel
    rw [hs, e, hw ⟨t, by omega⟩]
    show pw (253 - t) = _
    rw [pw_of_mem (253 - t) (by omega) (by omega)]
    congr 2
    omega

end Cert.Proof
-- ==== Proof.Row.lean ====
/-
  One token: its root mean square, its largest magnitude, its scale and its codes -- as the kernel orders the
  multiplications, and as the mathematics is written -- and that the two are equal.
-/
module

public import proofs.«01_k».proof.Proof.Exponent

@[expose] public section

noncomputable section

namespace Cert.Proof

open Idealize.ShloMosaic

/-- The epsilon of both norms, the float32 nearest 1e-6. -/
def epsE : EReal := Ideal.ofBits .f32 0x358637BD#32

/-- The float32 nearest 1/448. -/
def over448 : EReal := Ideal.ofBits .f32 0x3B124925#32

/-- A value clipped to [-448, 448]. -/
def clipE (a : EReal) : EReal := min (Ideal.ofBits .f32 0x43E00000#32) (max (Ideal.ofBits .f32 0xC3E00000#32) a)

/-- The sum of a row's squares. -/
def ssq (v : Fin 5120 → EReal) : EReal := ∑ q, v q * v q

/-- The magnitude. -/
def mag (a : EReal) : EReal := max a (-a)

/-- The largest value of a family, from minus infinity. -/
def largest (f : Fin 5120 → EReal) : EReal := Finset.univ.fold max ⊥ f

/-! ## As the kernel orders it -/

/-- The reciprocal root mean square, the mean as a product with 1/5120. -/
def rmsK (v : Fin 5120 → EReal) : EReal := Ideal.rsqrt (ssq v * (((1 / 5120 : ℝ) : ℝ) : EReal) + epsE)

/-- The largest |value * gain|, then the reciprocal root mean square, then 1/448. -/
def topK (v g : Fin 5120 → EReal) : EReal := largest (fun q => mag (v q * g q)) * rmsK v * over448

/-- The scale, built from the exponent field. -/
def scaleK (v g : Fin 5120 → EReal) : EReal := scaleBits (topK v g)

/-- The code at `q`: the value times one factor, times the gain. -/
def codeK (v g : Fin 5120 → EReal) (q : Fin 5120) : EReal :=
  clipE (v q * (rmsK v * inverseBits (topK v g)) * g q)

/-! ## As the mathematics is written -/

/-- The reciprocal root mean square. -/
def rmsR (v : Fin 5120 → EReal) : EReal := Ideal.rsqrt (Ideal.div (ssq v) (Ideal.ofBits .f32 0x45A00000#32) + epsE)

/-- The normalised row. -/
def normR (v g : Fin 5120 → EReal) (q : Fin 5120) : EReal := v q * rmsR v * g q

/-- The normalised row's largest magnitude. -/
def amaxR (v g : Fin 5120 → EReal) : EReal := largest fun q => mag (normR v g q)

/-- The exponent of the scale. -/
def expoR (v g : Fin 5120 → EReal) : EReal := expo (amaxR v g) (amaxR v g * over448)

/-- The scale. -/
def scaleR (v g : Fin 5120 → EReal) : EReal := Ideal.exp2 (expoR v g)

/-- The code at `q`. -/
def codeR (v g : Fin 5120 → EReal) (q : Fin 5120) : EReal := clipE (normR v g q * Ideal.exp2 (0 - expoR v g))

/-- The row's scale and its reciprocal are normal float32 numbers (or the row is zero). -/
def RowInRange (v g : Fin 5120 → EReal) : Prop := InRange (amaxR v g) (amaxR v g * over448)

/-! ## They are equal -/

theorem mul_self_nonneg' (a : EReal) : 0 ≤ a * a := by
  rcases le_total 0 a with h | h
  · exact mul_nonneg h h
  · have := mul_nonneg (EReal.neg_nonneg.2 h) (EReal.neg_nonneg.2 h)
    simpa using this

theorem ssq_nonneg (v : Fin 5120 → EReal) : 0 ≤ ssq v := Finset.sum_nonneg fun q _ => mul_self_nonneg' (v q)

theorem ofBits_5120 : Ideal.ofBits .f32 0x45A00000#32 = ((5120 : ℝ) : EReal) := by
  simp [Ideal.ofBits, Ideal.ieee, -EReal.coe_mul]
  norm_num

theorem rms_eq (v : Fin 5120 → EReal) : rmsK v = rmsR v := by
  unfold rmsK rmsR
  rw [ofBits_5120]
  unfold Ideal.div
  rw [if_neg (by norm_num)]
  congr 3
  rw [one_div, EReal.coe_inv]

theorem eps_nonneg : 0 ≤ epsE := by
  unfold epsE
  simp [Ideal.ofBits, Ideal.ieee, -EReal.coe_mul]

/-- A reciprocal root of a number ≥ 0 is ≥ 0. -/
theorem rsqrt_nonneg {a : EReal} (h : 0 ≤ a) : 0 ≤ Ideal.rsqrt a := by
  induction a with
  | bot => simp at h
  | top => exact le_refl _
  | coe r =>
    have hr : 0 ≤ r := by exact_mod_cast h
    show 0 ≤ (if r < 0 then ⊥ else if r = 0 then ⊤ else (((Real.sqrt r)⁻¹ : ℝ) : EReal))
    rw [if_neg (not_lt.2 hr)]
    split
    · exact le_top
    · exact_mod_cast inv_nonneg.2 (Real.sqrt_nonneg r)

theorem rms_nonneg (v : Fin 5120 → EReal) : 0 ≤ rmsK v := by
  refine rsqrt_nonneg (add_nonneg (mul_nonneg (ssq_nonneg v) ?_) eps_nonneg)
  exact_mod_cast (by norm_num : (0 : ℝ) ≤ 1 / 5120)

theorem mag_mul {a r : EReal} (h : 0 ≤ r) : mag (a * r) = mag a * r := by
  unfold mag
  rw [← EReal.neg_mul]
  have hm : Monotone fun x : EReal => x * r := fun x y hxy => mul_le_mul_of_nonneg_right hxy h
  exact (hm.map_max (a := a) (b := -a)).symm

/-- A factor ≥ 0 comes out of the largest of a family. -/
theorem largest_mul (f : Fin 5120 → EReal) {r : EReal} (h : 0 ≤ r) :
    largest (fun q => f q * r) = largest f * r := by
  have hm : Monotone fun x : EReal => x * r := fun x y hxy => mul_le_mul_of_nonneg_right hxy h
  have ub : ∀ (f : Fin 5120 → EReal) q, f q ≤ largest f := fun f q =>
    (Finset.fold_max_le (s := Finset.univ) (f := f) (b := ⊥) (largest f)).1 le_rfl |>.2 q (Finset.mem_univ q)
  apply le_antisymm
  · refine (Finset.fold_max_le _).2 ⟨bot_le, fun q _ => hm (ub f q)⟩
  · rcases (Finset.le_fold_max (s := Finset.univ) (f := f) (b := ⊥) (largest f)).1 le_rfl with hb | ⟨q, _, hq⟩
    · exact (hm ((hb.trans bot_le).trans (show (⊥ : EReal) ≤ f 0 from bot_le))).trans (ub (fun q => f q * r) 0)
    · exact (hm hq).trans (ub (fun q => f q * r) q)

/-- The kernel's largest magnitude is the normalised row's. -/
theorem amax_eq (v g : Fin 5120 → EReal) : largest (fun q => mag (v q * g q)) * rmsK v = amaxR v g := by
  rw [← largest_mul _ (rms_nonneg v)]
  unfold amaxR normR
  refine congrArg largest (funext fun q => ?_)
  rw [← mag_mul (rms_nonneg v), ← rms_eq]
  refine congrArg mag ?_
  rw [mul_assoc, mul_comm (g q), ← mul_assoc]

theorem top_eq (v g : Fin 5120 → EReal) : topK v g = amaxR v g * over448 := by
  unfold topK
  rw [amax_eq]

/-- The scales agree. -/
theorem scale_eq {v g : Fin 5120 → EReal} (h : RowInRange v g) : scaleK v g = scaleR v g := by
  unfold scaleK scaleR expoR
  rw [top_eq]
  exact scaleBits_eq (fun h0 => by rw [h0, zero_mul]) h

/-- The codes agree. -/
theorem code_eq {v g : Fin 5120 → EReal} (h : RowInRange v g) (q : Fin 5120) : codeK v g q = codeR v g q := by
  unfold codeK codeR expoR normR
  rw [top_eq, inverseBits_eq (fun h0 => by rw [h0, zero_mul]) h, ← rms_eq]
  congr 1
  rw [← mul_assoc, mul_assoc _ _ (g q), mul_comm _ (g q), ← mul_assoc]

/-! ## The projections -/

/-- One output of a projection: the codes against a weight row, times the token's scale, times the weight's scale. -/
def projE (code : Fin 5120 → EReal) (scale : EReal) (w : Fin 5120 → EReal) (ws : EReal) : EReal :=
  (∑ q, code q * w q) * scale * ws

/-- A head's norm. -/
def headE (t g : Fin 128 → EReal) (l : Fin 128) : EReal :=
  t l * Ideal.rsqrt (Ideal.div (∑ j, t j * t j) (Ideal.ofBits .f32 0x43000000#32) + epsE) * g l

end Cert.Proof
-- ==== Proof.Spec.lean ====
/-
  The five results as functions of the arguments, once with the codes and scales as the kernel orders their arithmetic
  and once as the mathematics is written; where every row is in range the two are equal.
-/
module

public import proofs.«01_k».proof.Proof.Row
public import Idealize.ShloMosaic.Lib.Pointwise

@[expose] public section

set_option maxRecDepth 16384

noncomputable section

namespace Cert.Proof

open Idealize.ShloMosaic

/-- Column `j` of head `n`. -/
def col (n : Fin 5) (j : Fin 128) : Fin 640 := ⟨128 * n.val + j.val, by omega⟩

/-- The tokens, the gain, the weights, the weights' scales, a head's gain. -/
abbrev Tokens := (⟨3, ![3, 1024, 5120]⟩ : Shape).Idx → EReal
abbrev Gain := (⟨1, ![5120]⟩ : Shape).Idx → EReal
abbrev Weights := (⟨2, ![640, 5120]⟩ : Shape).Idx → EReal
abbrev WScales := (⟨1, ![640]⟩ : Shape).Idx → EReal
abbrev HGain := (⟨1, ![128]⟩ : Shape).Idx → EReal
abbrev Heads := (⟨4, ![3, 1024, 5, 128]⟩ : Shape).Idx → EReal
abbrev Scales := (⟨3, ![3, 1024, 1]⟩ : Shape).Idx → EReal

/-- The row of token `s` of sequence `b`. -/
def tokenRow (x : Tokens) (b : Fin 3) (s : Fin 1024) (q : Fin 5120) : EReal := x (ix3 b s q)

/-- The gain as a row. -/
def gainRow (g : Gain) (q : Fin 5120) : EReal := g (ix1 q)

section
variable (code : (Fin 5120 → EReal) → (Fin 5120 → EReal) → Fin 5120 → EReal) (scale : (Fin 5120 → EReal) → (Fin 5120 → EReal) → EReal)

/-- The projection of token `s` of sequence `b` at head `n`, lane `j`. -/
def projOf (x : Tokens) (g : Gain) (W : Weights) (ws : WScales) (b : Fin 3) (s : Fin 1024) (n : Fin 5) (j : Fin 128) : EReal :=
  projE (code (tokenRow x b s) (gainRow g)) (scale (tokenRow x b s) (gainRow g)) (fun q => W (ix2 (col n j) q)) (ws (ix1 (col n j)))

/-- The normalised heads. -/
def normOf (x : Tokens) (g : Gain) (W : Weights) (ws : WScales) (gn : HGain) : Heads := fun y =>
  headE (projOf code scale x g W ws (y 0) (y 1) (y 2)) (fun j => gn (ix1 j)) (y 3)

/-- The plain heads. -/
def plainOf (x : Tokens) (g : Gain) (W : Weights) (ws : WScales) : Heads := fun y =>
  projOf code scale x g W ws (y 0) (y 1) (y 2) (y 3)

/-- The codes. -/
def codesOf (x : Tokens) (g : Gain) : Tokens := fun y => code (tokenRow x (y 0) (y 1)) (gainRow g) (y 2)

/-- The scales. -/
def scalesOf (x : Tokens) (g : Gain) : Scales := fun y => scale (tokenRow x (y 0) (y 1)) (gainRow g)

end

/-- Every token's row is in range. -/
def AllInRange (x : Tokens) (g : Gain) : Prop := ∀ b s, RowInRange (tokenRow x b s) (gainRow g)

section
variable {x : Tokens} {g : Gain} (h : AllInRange x g)
include h

theorem projOf_eq (W : Weights) (ws : WScales) (b : Fin 3) (s : Fin 1024) (n : Fin 5) :
    projOf codeK scaleK x g W ws b s n = projOf codeR scaleR x g W ws b s n := by
  funext j
  have hc : codeK (tokenRow x b s) (gainRow g) = codeR (tokenRow x b s) (gainRow g) := funext fun q => code_eq (h b s) q
  unfold projOf
  rw [hc, scale_eq (h b s)]

theorem normOf_eq (W : Weights) (ws : WScales) (gn : HGain) :
    normOf codeK scaleK x g W ws gn = normOf codeR scaleR x g W ws gn := by
  funext y
  exact congrArg (fun t => headE t (fun j => gn (ix1 j)) (y 3)) (projOf_eq h W ws (y 0) (y 1) (y 2))

theorem plainOf_eq (W : Weights) (ws : WScales) : plainOf codeK scaleK x g W ws = plainOf codeR scaleR x g W ws := by
  funext y
  exact congrFun (projOf_eq h W ws (y 0) (y 1) (y 2)) (y 3)

theorem codesOf_eq : codesOf codeK x g = codesOf codeR x g := by
  funext y
  exact code_eq (h (y 0) (y 1)) (y 2)

theorem scalesOf_eq : scalesOf scaleK x g = scalesOf scaleR x g := by
  funext y
  exact scale_eq (h (y 0) (y 1))

end

end Cert.Proof
-- ==== Proof.Heads.lean ====
/-
  The heads: from the codes of 256 tokens, their scales and one window of weights, the five heads the kernel stores, each
  an [256, 128] slice of one product; for two of the three results each head is then normalised.
-/
module

public import proofs.«01_k».proof.Proof.Chunks
public import proofs.«01_k».proof.Proof.Spec

@[expose] public section

set_option maxRecDepth 16384

noncomputable section

namespace Cert.Proof

open Idealize.ShloMosaic Idealize.ShloMosaic.TcCoe Idealize.SL.Sem
open Cert.KernelIdeal Cert.KernelIdeal.Gen

theorem head_slices (n : ℕ) (h : n < 5) : S256x640.Slices ![0, 128 * n] S256x128 := by
  have : ∀ n : Fin 5, S256x640.Slices ![0, 128 * n.val] S256x128 := by decide
  exact this ⟨n, h⟩

theorem ws_inb (n : ℕ) (h : n < 5) : ∀ a, (![n, 0] : Fin 2 → Nat) a + S1x128.size a ≤ S5x128.size a := by
  intro a
  fin_cases a
  · show n + 1 ≤ 5; omega
  · show 0 + 128 ≤ 128; omega

theorem head_inb (n : ℕ) (h : n < 5) : ∀ a, (![0, n, 0, 0] : Fin 4 → Nat) a + S1x1x256x128.size a ≤ S1x5x256x128.size a := by
  intro a
  fin_cases a
  · show 0 + 1 ≤ 1; omega
  · show n + 1 ≤ 5; omega
  · show 0 + 256 ≤ 256; omega
  · show 0 + 128 ≤ 128; omega

/-- One head before its normalisation. -/
def headRaw (n : ℕ) (h : n < 5) (acc : FVec Ideal S256x640 .f32) (S : Vec Ideal S256x128 .f32) (ws : Vec Ideal S1x128 .f32) :
    FVec Ideal S256x128 .f32 :=
  mulf (mulf (extractStridedSlice S256x128 ![0, 128 * n] acc (head_slices n h)) S)
    (broadcastTo S256x128 (shapeCast S1x128 ws shapeCasts_S1x128_S1x128) broadcasts_S1x128_S256x128)

/-- A head's mean of squares over its lanes. -/
def meanSq (t : FVec Ideal S256x128 .f32) : FVec Ideal S256x1 .f32 :=
  divf (shapeCast S256x1 (multiReduction .add [1] S256 (mulf t t) 0x00000000#32 reduces_S256x128_S256 (.inl rfl) rfl) shapeCasts_S256_S256x1)
    (broadcast S256x1 (Scalar.ofBits (F := Ideal) .f32 0x43000000#32))

/-- A normalised head, as stored. -/
def headNorm (t : FVec Ideal S256x128 .f32) (gn : Vec Ideal S1x128 .bf16) : FVec Ideal S1x1x256x128 .bf16 :=
  k0_pay131 t (meanSq t) (Scalar.ofBits (F := Ideal) .f32 0x358637BD#32) gn

/-- A plain head, as stored. -/
def headPlain (t : FVec Ideal S256x128 .f32) : FVec Ideal S1x1x256x128 .bf16 :=
  shapeCast S1x1x256x128 (truncf .bf16 t bitsLt_bf16_f32) shapeCasts_S256x128_S1x1x256x128

/-- The row of weight scales of head `n`, loaded. -/
def wsLd (m : Memref sig .tc .vmem S5x128 .f32) (X : BufTy.Contents (Elt Ideal) m.view.ty) (n : ℕ) (h : n < 5) : Vec Ideal S1x128 .f32 :=
  m.view.readAt (Elt Ideal) (Rect.unit (s := S5x128) ![n, 0] S1x128.size (ws_inb n h)).toLoadRect X

section
variable (acc : FVec Ideal S256x640 .f32) (S : Vec Ideal S256x128 .f32)
  (m : Memref sig .tc .vmem S5x128 .f32) (X : BufTy.Contents (Elt Ideal) m.view.ty) (gn : Vec Ideal S1x128 .bf16)

/-- The stores of the first `n` normalised heads, last first. -/
def normPieces : (n : ℕ) → n ≤ 5 → List (View.Piece (Elt Ideal) S1x5x256x128 .bf16)
  | 0, _ => []
  | n + 1, h => ⟨Rect.unit (s := S1x5x256x128) ![0, n, 0, 0] S1x1x256x128.size (head_inb n h),
      headNorm (headRaw n h acc S (wsLd m X n h)) gn⟩ :: normPieces n (Nat.le_of_succ_le h)

/-- The stores of the first `n` plain heads, last first. -/
def plainPieces : (n : ℕ) → n ≤ 5 → List (View.Piece (Elt Ideal) S1x5x256x128 .bf16)
  | 0, _ => []
  | n + 1, h => ⟨Rect.unit (s := S1x5x256x128) ![0, n, 0, 0] S1x1x256x128.size (head_inb n h),
      headPlain (headRaw n h acc S (wsLd m X n h))⟩ :: plainPieces n (Nat.le_of_succ_le h)

end

/-! ## Read at an index -/

/-- The product of the codes with the weights. -/
theorem acc_read (C : Vec Ideal S1x256x5120 .fp8e4m3) (W : Vec Ideal S640x5120 .fp8e4m3) (p : Fin 256) (n : Fin 640) :
    k0_pay128 C W (ix2 p n) = ∑ q : Fin 5120, C (ix3 0 p q) * W (ix2 n q) := by
  pointwise [k0_pay128]

theorem headRaw_read (n : ℕ) (h : n < 5) (acc : FVec Ideal S256x640 .f32) (S : Vec Ideal S256x128 .f32) (ws : Vec Ideal S1x128 .f32)
    (p : Fin 256) (l : Fin 128) :
    headRaw n h acc S ws (ix2 p l) = acc (ix2 p (col ⟨n, h⟩ l)) * S (ix2 p l) * ws (ix2 0 l) := by
  unfold headRaw
  generalize hA : extractStridedSlice S256x128 ![0, 128 * n] acc (head_slices n h) = A
  have hB : A (ix2 p l) = acc (ix2 p (col ⟨n, h⟩ l)) := by
    rw [← hA]
    refine congrArg acc ?_
    funext a
    fin_cases a
    · exact Fin.ext (by show 0 + p.val = p.val; omega)
    · rfl
  rw [← hB]
  clear hA hB
  pointwise

theorem headNorm_read (t : FVec Ideal S256x128 .f32) (gn : Vec Ideal S1x128 .bf16) (a b : Fin 1) (p : Fin 256) (l : Fin 128) :
    headNorm t gn (ix4 a b p l) = headE (fun j => t (ix2 p j)) (fun j => gn (ix2 0 j)) l := by
  obtain rfl : a = 0 := Subsingleton.elim _ _
  obtain rfl : b = 0 := Subsingleton.elim _ _
  pointwise [headNorm, k0_pay131, meanSq]
  rfl

theorem headPlain_read (t : FVec Ideal S256x128 .f32) (a b : Fin 1) (p : Fin 256) (l : Fin 128) :
    headPlain t (ix4 a b p l) = t (ix2 p l) := by
  obtain rfl : a = 0 := Subsingleton.elim _ _
  obtain rfl : b = 0 := Subsingleton.elim _ _
  pointwise [headPlain]

theorem wsLd_read (m : Memref sig .tc .vmem S5x128 .f32) (X : BufTy.Contents (Elt Ideal) m.view.ty) (n : ℕ) (h : n < 5) (l : Fin 128) :
    wsLd m X n h (ix2 0 l) = m.view.read (Elt Ideal) X (ix2 ⟨n, h⟩ l) := by
  refine View.ld_unit_apply_of _ _ _ _ _ _ ?_
  intro a
  fin_cases a
  · rfl
  · show l.val = 0 + l.val; omega

section
variable (C : Vec Ideal S1x256x5120 .fp8e4m3) (W : Vec Ideal S640x5120 .fp8e4m3) (S : Vec Ideal S256x128 .f32)
  (m : Memref sig .tc .vmem S5x128 .f32) (X : BufTy.Contents (Elt Ideal) m.view.ty) (gn : Vec Ideal S1x128 .bf16)

/-- The projection at head `n`, token `p`, lane `j`. -/
def projG (w : S5x128.Idx → EReal) (n : Fin 5) (p : Fin 256) (j : Fin 128) : EReal :=
  (∑ q : Fin 5120, C (ix3 0 p q) * W (ix2 (col n j) q)) * S (ix2 p j) * w (ix2 n j)

theorem raw_read (n : ℕ) (h : n < 5) (p : Fin 256) (j : Fin 128) :
    headRaw n h (k0_pay128 C W) S (wsLd m X n h) (ix2 p j) = projG C W S (m.view.read (Elt Ideal) X) ⟨n, h⟩ p j := by
  rw [headRaw_read, acc_read, wsLd_read]
  rfl

/-- A window of normalised heads. -/
def normG (w : S5x128.Idx → EReal) (y : S1x5x256x128.Idx) : EReal :=
  headE (projG C W S w (y 1) (y 2)) (fun j => gn (ix2 0 j)) (y 3)

/-- A window of plain heads. -/
def plainG (w : S5x128.Idx → EReal) (y : S1x5x256x128.Idx) : EReal := projG C W S w (y 1) (y 2) (y 3)

theorem piece_idx (x : S1x1x256x128.Idx) : x = ix4 (n0 := 1) (n1 := 1) (n2 := 256) (n3 := 128) (x 0) (x 1) (x 2) (x 3) := by
  funext a; fin_cases a <;> rfl

theorem emb_eq (n : ℕ) (h : n < 5) (x : S1x1x256x128.Idx) :
    let y := (Rect.unit (s := S1x5x256x128) ![0, n, 0, 0] S1x1x256x128.size (head_inb n h)).emb x
    (y 1 : Fin 5) = ⟨n, h⟩ ∧ (y 2 : Fin 256) = x 2 ∧ (y 3 : Fin 128) = x 3 := by
  have h1 : (x 1).val < 1 := (x 1).isLt
  refine ⟨Fin.ext ?_, Fin.ext ?_, Fin.ext ?_⟩
  · show n + 1 * (x 1).val = n; omega
  · show 0 + 1 * (x 2).val = (x 2).val; omega
  · show 0 + 1 * (x 3).val = (x 3).val; omega

theorem head_mem (n : ℕ) (h : n < 5) (y : S1x5x256x128.Idx) (hy : (y 1).val = n) :
    y ∈ (Rect.unit (s := S1x5x256x128) ![0, n, 0, 0] S1x1x256x128.size (head_inb n h)).set := by
  refine Rect.mem_set_unit.2 fun a => ?_
  have h0 : (y 0).val < 1 := (y 0).isLt
  have h2 : (y 2).val < 256 := (y 2).isLt
  have h3 : (y 3).val < 128 := (y 3).isLt
  fin_cases a
  · exact ⟨Nat.zero_le _, by show (y 0).val < 0 + 1; omega⟩
  · exact ⟨by show n ≤ (y 1).val; omega, by show (y 1).val < n + 1; omega⟩
  · exact ⟨Nat.zero_le _, by show (y 2).val < 0 + 256; omega⟩
  · exact ⟨Nat.zero_le _, by show (y 3).val < 0 + 128; omega⟩

theorem normPieces_read (n : ℕ) (h : n ≤ 5) : ∀ p ∈ normPieces (k0_pay128 C W) S m X gn n h, ∀ x : p.1.shape.Idx,
    p.2 x = normG C W S gn (m.view.read (Elt Ideal) X) (p.1.emb x) := by
  induction n with
  | zero => intro p hp; simp [normPieces] at hp
  | succ n ih =>
    intro p hp
    rcases List.mem_cons.1 hp with rfl | hp
    · intro x
      obtain ⟨e1, e2, e3⟩ := emb_eq n h x
      refine (congrArg _ (piece_idx x)).trans ((headNorm_read _ _ (x 0) (x 1) (x 2) (x 3)).trans ?_)
      unfold normG
      rw [e1, e2, e3]
      exact congrArg (fun t => headE t (fun j => gn (ix2 0 j)) (x 3)) (funext fun j => raw_read C W S m X n h (x 2) j)
    · exact ih _ p hp

theorem plainPieces_read (n : ℕ) (h : n ≤ 5) : ∀ p ∈ plainPieces (k0_pay128 C W) S m X n h, ∀ x : p.1.shape.Idx,
    p.2 x = plainG C W S (m.view.read (Elt Ideal) X) (p.1.emb x) := by
  induction n with
  | zero => intro p hp; simp [plainPieces] at hp
  | succ n ih =>
    intro p hp
    rcases List.mem_cons.1 hp with rfl | hp
    · intro x
      obtain ⟨e1, e2, e3⟩ := emb_eq n h x
      refine (congrArg _ (piece_idx x)).trans ((headPlain_read _ (x 0) (x 1) (x 2) (x 3)).trans ?_)
      unfold plainG
      rw [e1, e2, e3]
      exact raw_read C W S m X n h _ _
    · exact ih _ p hp

theorem normPieces_cover (acc : FVec Ideal S256x640 .f32) (y : S1x5x256x128.Idx) (n : ℕ) (h : n ≤ 5) (hy : (y 1).val < n) :
    ∃ p ∈ normPieces acc S m X gn n h, y ∈ p.1.set := by
  induction n with
  | zero => omega
  | succ n ih =>
    rcases Nat.lt_or_ge (y 1).val n with hn | hn
    · obtain ⟨p, hp, hm⟩ := ih (Nat.le_of_succ_le h) hn
      exact ⟨p, List.mem_cons_of_mem _ hp, hm⟩
    · exact ⟨_, List.mem_cons_self, head_mem n h y (by omega)⟩

theorem plainPieces_cover (acc : FVec Ideal S256x640 .f32) (y : S1x5x256x128.Idx) (n : ℕ) (h : n ≤ 5) (hy : (y 1).val < n) :
    ∃ p ∈ plainPieces acc S m X n h, y ∈ p.1.set := by
  induction n with
  | zero => omega
  | succ n ih =>
    rcases Nat.lt_or_ge (y 1).val n with hn | hn
    · obtain ⟨p, hp, hm⟩ := ih (Nat.le_of_succ_le h) hn
      exact ⟨p, List.mem_cons_of_mem _ hp, hm⟩
    · exact ⟨_, List.mem_cons_self, head_mem n h y (by omega)⟩

/-- The normalised heads, as one window. -/
theorem norm_window : View.canon (normPieces (k0_pay128 C W) S m X gn 5 (by decide))
    = normG C W S gn (m.view.read (Elt Ideal) X) := by
  funext y
  exact View.canon_apply_of_pieces _ _ (normPieces_read C W S m X gn 5 (by decide)) y
    (normPieces_cover S m X gn _ y 5 (by decide) (y 1).isLt)

/-- The plain heads, as one window. -/
theorem plain_window : View.canon (plainPieces (k0_pay128 C W) S m X 5 (by decide))
    = plainG C W S (m.view.read (Elt Ideal) X) := by
  funext y
  exact View.canon_apply_of_pieces _ _ (plainPieces_read C W S m X 5 (by decide)) y
    (plainPieces_cover S m X _ y 5 (by decide) (y 1).isLt)

end

end Cert.Proof
-- ==== Proof.TripWords.lean ====
/-
  One group of 32 tokens, continued: the words of the loop body after the chunks -- the exponent field found bit by bit,
  the scale, the factor each value is multiplied by, the codes stored chunk by chunk -- as plain functions.
-/
module

public import proofs.«01_k».proof.Proof.Chunks

@[expose] public section

set_option maxRecDepth 16384

noncomputable section

namespace Cert.Proof

open Idealize.ShloMosaic Idealize.ShloMosaic.TcCoe Idealize.SL.Sem
open Cert.KernelIdeal Cert.KernelIdeal.Gen

/-- One bit of the search for the exponent field. -/
def stepV (Y : FVec Ideal S32x1 .f32) (B : IVec S32x1 32) (d : BitVec 32) : IVec S32x1 32 :=
  select (cmpf .oge Y (bitcastToFloat .f32 (shli (addi B (broadcast S32x1 d)) (broadcast S32x1 23#32))))
    (addi B (broadcast S32x1 d)) B

/-- The exponent field of `Y`, eight bits. -/
def fieldV (Y : FVec Ideal S32x1 .f32) : IVec S32x1 32 :=
  stepV Y (stepV Y (stepV Y (stepV Y (stepV Y (stepV Y (stepV Y (stepV Y (broadcast S32x1 0#32)
    128#32) 64#32) 32#32) 16#32) 8#32) 4#32) 2#32) 1#32

/-- The field where it is neither 0 nor 255, else 126. -/
def biasedV (Y : FVec Ideal S32x1 .f32) : IVec S32x1 32 :=
  select (andi (cmpi .sgt (fieldV Y) (broadcast S32x1 0#32)) (cmpi .slt (fieldV Y) (broadcast S32x1 255#32)))
    (fieldV Y) (broadcast S32x1 126#32)

/-- The scale word. -/
def scaleV (Y : FVec Ideal S32x1 .f32) : FVec Ideal S32x1 .f32 :=
  bitcastToFloat .f32 (shli (addi (biasedV Y) (broadcast S32x1 1#32)) (broadcast S32x1 23#32))

/-- The reciprocal of the scale. -/
def inverseV (Y : FVec Ideal S32x1 .f32) : FVec Ideal S32x1 .f32 :=
  bitcastToFloat .f32 (shli (subi (broadcast S32x1 253#32) (biasedV Y)) (broadcast S32x1 23#32))

section
variable (arg2 : Memref sig .tc .vmem S1x256x5120 .bf16) (arg17 : Memref sig .tc .vmem S40x128 .f32)
  (X2 : BufTy.Contents (Elt Ideal) arg2.view.ty) (X17 : BufTy.Contents (Elt Ideal) arg17.view.ty)
  (k : Fin k0_t1_loop.trips)

/-- The rows' reciprocal root mean square. -/
def rmsV : FVec Ideal S32x1 .f32 := k0_pay62 (ssqV arg2 X2 k 39 (by decide)) (chunk arg2 X2 k 39)

/-- The rows' largest magnitude over 448. -/
def topV : FVec Ideal S32x1 .f32 :=
  k0_pay63 (ssqV arg2 X2 k 39 (by decide)) (maxV arg2 arg17 X2 X17 k 39 (by decide)) (chunk arg2 X2 k 39) (gainLd arg17 X17 39)

theorem r_eq : trip_k0_t1.sl.r arg2 X2 k = rmsV arg2 X2 k := rfl

theorem r_1_eq : trip_k0_t1.sl.r_1 arg2 arg17 X2 X17 k = topV arg2 arg17 X2 X17 k := rfl

theorem v852_eq : trip_k0_t1.sl.v852 arg2 arg17 X2 X17 k = fieldV (topV arg2 arg17 X2 X17 k) := rfl

theorem v864_eq : trip_k0_t1.sl.v864 arg2 arg17 X2 X17 k = scaleV (topV arg2 arg17 X2 X17 k) := rfl

theorem v870_eq : trip_k0_t1.sl.v870 arg2 arg17 X2 X17 k
    = mulf (rmsV arg2 X2 k) (inverseV (topV arg2 arg17 X2 X17 k)) := rfl

/-- The codes stored for chunk `c`. -/
def codeV (c : Fin 40) : FVec Ideal S1x32x128 .fp8e4m3 :=
  k0_pay110 (mulf (rmsV arg2 X2 k) (inverseV (topV arg2 arg17 X2 X17 k))) (chunkLd arg2 X2 k c) (gainLd arg17 X17 c)

/-- The stores of the first `n` chunks' codes, last first. -/
def codePieces : (n : ℕ) → n ≤ 40 → List (View.Piece (Elt Ideal) S1x256x5120 .fp8e4m3)
  | 0, _ => []
  | n + 1, h => ⟨Rect.unit (s := S1x256x5120) ![0, rowWord k, 128 * n] S1x32x128.size (off_inb k ⟨n, h⟩),
      codeV arg2 arg17 X2 X17 k ⟨n, h⟩⟩ :: codePieces n (Nat.le_of_succ_le h)

end

end Cert.Proof
-- ==== Proof.TripPieces.lean ====
/-
  What one trip of the loop stores: forty chunks of codes, and the rows' scales.
-/
module

public import proofs.«01_k».proof.Proof.TripWords

@[expose] public section

set_option maxRecDepth 16384

noncomputable section

namespace Cert.Proof

open Idealize.ShloMosaic Idealize.ShloMosaic.TcCoe Idealize.SL.Sem
open Cert.KernelIdeal Cert.KernelIdeal.Gen

theorem scale_inb (k : Fin k0_t1_loop.trips) : ∀ a, (![rowWord k, 0] : Fin 2 → Nat) a + S32x128.size a ≤ S256x128.size a := by
  have hk := trip_lt k
  have hr := rowWord_eq k
  intro a
  fin_cases a
  · show rowWord k + 32 ≤ 256; omega
  · show 0 + 128 ≤ 128; omega

/-- The trip's stores of codes and of scales. -/
theorem trip_pieces (c : Dev nD) (i : grid0.Coords) (arg2 : Memref sig .tc .vmem S1x256x5120 .bf16) (harg2 : arg2.IsWhole) (arg3 : Memref sig .tc .vmem S40x128 .bf16) (harg3 : arg3.IsWhole) (arg4 : Memref sig .tc .vmem S640x5120 .fp8e4m3) (harg4 : arg4.IsWhole) (arg5 : Memref sig .tc .vmem S5x128 .f32) (harg5 : arg5.IsWhole) (arg6 : Memref sig .tc .vmem S640x5120 .fp8e4m3) (harg6 : arg6.IsWhole) (arg7 : Memref sig .tc .vmem S5x128 .f32) (harg7 : arg7.IsWhole) (arg8 : Memref sig .tc .vmem S640x5120 .fp8e4m3) (harg8 : arg8.IsWhole) (arg9 : Memref sig .tc .vmem S5x128 .f32) (harg9 : arg9.IsWhole) (arg10 : Memref sig .tc .vmem S1x128 .bf16) (harg10 : arg10.IsWhole) (arg11 : Memref sig .tc .vmem S1x128 .bf16) (harg11 : arg11.IsWhole) (arg12 : Memref sig .tc .vmem S1x5x256x128 .bf16) (harg12 : arg12.IsWhole) (arg13 : Memref sig .tc .vmem S1x5x256x128 .bf16) (harg13 : arg13.IsWhole) (arg14 : Memref sig .tc .vmem S1x5x256x128 .bf16) (harg14 : arg14.IsWhole) (arg15 : Memref sig .tc .vmem S1x256x5120 .fp8e4m3) (harg15 : arg15.IsWhole) (arg16 : Memref sig .tc .vmem S1x1x256 .f32) (harg16 : arg16.IsWhole) (arg17 : Memref sig .tc .vmem S40x128 .f32) (harg17 : arg17.IsWhole) (arg18 : Memref sig .tc .vmem S256x128 .f32) (harg18 : arg18.IsWhole) (X2 : BufTy.Contents (Elt Ideal) arg2.view.ty) (X17 : BufTy.Contents (Elt Ideal) arg17.view.ty) (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 k
      = (codePieces arg2 arg17 X2 X17 k 40 (by decide),
         [⟨Rect.unit (s := S256x128) ![rowWord k, 0] S32x128.size (scale_inb k), k0_pay126 (scaleV (topV arg2 arg17 X2 X17 k))⟩]) := by
  dsimp only [tripL_k0_t1]
  unfold trip_k0_t1
  dsimp only
  rfl

end Cert.Proof
-- ==== Proof.TripValues.lean ====
/-
  One group of 32 tokens, read at an index: the root mean squares, the largest magnitudes, the scales and the codes of
  the loop body are those of each token's row.
-/
module

public import proofs.«01_k».proof.Proof.TripPieces
public import proofs.«01_k».proof.Proof.Row

@[expose] public section

set_option maxRecDepth 16384

noncomputable section

namespace Cert.Proof

open Idealize.ShloMosaic Idealize.ShloMosaic.TcCoe Idealize.SL.Sem
open Cert.KernelIdeal Cert.KernelIdeal.Gen

/-- One bit of the search at one token. -/
theorem stepV_apply (Y : FVec Ideal S32x1 .f32) (B : IVec S32x1 32) (d : BitVec 32) (i : S32x1.Idx) :
    stepV Y B d i = trialBits (Y i) (B i) d := by
  pointwise [stepV, trialBits]
  rfl

/-- The field at one token. -/
theorem biasedV_apply (Y : FVec Ideal S32x1 .f32) (i : S32x1.Idx) : biasedV Y i = biasedBits (Y i) := by
  have h : fieldV Y i = fieldBits (Y i) := by
    simp only [fieldV, stepV_apply, fieldBits]
    rfl
  unfold biasedBits
  rw [← h]
  unfold biasedV
  generalize fieldV Y = B
  pointwise
  show (if (BitVec.ofBool ((0#32).slt (B i)) &&& BitVec.ofBool ((B i).slt 255#32)) = 1#1 then B i else 126#32) = _
  cases (0#32).slt (B i) <;> cases (B i).slt 255#32 <;> rfl

/-- The scale at one token. -/
theorem scaleV_apply (Y : FVec Ideal S32x1 .f32) (i : S32x1.Idx) : scaleV Y i = scaleBits (Y i) := by
  unfold scaleBits
  rw [← biasedV_apply]
  rfl

/-- The scale's reciprocal at one token. -/
theorem inverseV_apply (Y : FVec Ideal S32x1 .f32) (i : S32x1.Idx) : inverseV Y i = inverseBits (Y i) := by
  unfold inverseBits
  rw [← biasedV_apply]
  rfl

/-- Row `p` of a block of tokens. -/
def rowOf (x : S1x256x5120.Idx → EReal) (p : Fin 256) (q : Fin 5120) : EReal := x (ix3 0 p q)

/-- The gain, laid out in 40 rows of 128, as one row. -/
def gainOf (g : S40x128.Idx → EReal) (q : Fin 5120) : EReal :=
  g (ix2 ⟨q.val / 128, by omega⟩ ⟨q.val % 128, by omega⟩)

/-- Lane `l` of chunk `c`. -/
def lane (c : Fin 40) (l : Fin 128) : Fin 5120 := ⟨c.val * 128 + l.val, by omega⟩

theorem gainOf_lane (g : S40x128.Idx → EReal) (c : Fin 40) (l : Fin 128) : gainOf g (lane c l) = g (ix2 c l) := by
  unfold gainOf
  congr 1
  have h1 : (c.val * 128 + l.val) / 128 = c.val := by omega
  have h2 : (c.val * 128 + l.val) % 128 = l.val := by omega
  congr 1 <;> exact Fin.ext (by assumption)

/-- The pay62 word at a token. -/
theorem rms_read (A B : FVec Ideal S32x128 .f32) (i : Fin 32) : k0_pay62 A B (ix2 i 0)
    = Ideal.rsqrt ((∑ l, (A (ix2 i l) + B (ix2 i l) * B (ix2 i l))) * (((1 / 5120 : ℝ) : ℝ) : EReal) + epsE) := by
  pointwise [k0_pay62]
  rfl

theorem top_read (A M B : FVec Ideal S32x128 .f32) (G : Vec Ideal S1x128 .f32) (i : Fin 32) : k0_pay63 A M B G (ix2 i 0)
    = Finset.fold max (⊥ : EReal) (fun l => max (M (ix2 i l)) (mag (B (ix2 i l) * G (ix2 0 l)))) Finset.univ
      * k0_pay62 A B (ix2 i 0) * over448 := by
  have hb : Ideal.ofBits .f32 0xFF800000#32 = ⊥ := by simp [Ideal.ofBits, Ideal.ieee]
  unfold k0_pay63
  generalize k0_pay62 A B = R
  pointwise
  rw [hb]
  rfl

theorem code_read (R : FVec Ideal S32x1 .f32) (V : Vec Ideal S1x32x128 .bf16) (G : Vec Ideal S1x128 .f32) (z : Fin 1) (i : Fin 32) (l : Fin 128) :
   k0_pay110 R V G (ix3 z i l) = clipE (V (ix3 0 i l) * R (ix2 i 0) * G (ix2 0 l)) := by
  obtain rfl : z = 0 := Subsingleton.elim _ _
  pointwise [k0_pay110]
  rfl

theorem scale_read (R : FVec Ideal S32x1 .f32) (i : Fin 32) (l : Fin 128) :
   k0_pay126 R (ix2 i l) = R (ix2 i 0) := by
  pointwise [k0_pay126]

section
variable (arg2 : Memref sig .tc .vmem S1x256x5120 .bf16) (arg17 : Memref sig .tc .vmem S40x128 .f32)
  (X2 : BufTy.Contents (Elt Ideal) arg2.view.ty) (X17 : BufTy.Contents (Elt Ideal) arg17.view.ty)
  (k : Fin k0_t1_loop.trips)

/-- Token `i` of trip `k`. -/
def tokenOf (i : Fin 32) : Fin 256 := ⟨32 * k.val + i.val, by have := trip_lt k; omega⟩

/-- The row of token `i` of trip `k`. -/
abbrev rowAt (i : Fin 32) : Fin 5120 → EReal := rowOf (arg2.view.read (Elt Ideal) X2) (tokenOf k i)

/-- The gain row. -/
abbrev gainAt : Fin 5120 → EReal := gainOf (arg17.view.read (Elt Ideal) X17)

theorem chunkLd_read (c : Fin 40) (i : Fin 32) (l : Fin 128) :
    chunkLd arg2 X2 k c (ix3 0 i l) = rowAt arg2 X2 k i (lane c l) := by
  unfold chunkLd rowAt rowOf
  refine View.ld_unit_apply_of _ _ _ _ _ _ ?_
  have hr := rowWord_eq k
  intro a
  fin_cases a
  · rfl
  · show 32 * k.val + i.val = rowWord k + i.val; omega
  · show c.val * 128 + l.val = 128 * c.val + l.val; omega

theorem chunk_read (c : Fin 40) (i : Fin 32) (l : Fin 128) :
    chunk arg2 X2 k c (ix2 i l) = rowAt arg2 X2 k i (lane c l) := by
  rw [← chunkLd_read]
  pointwise [chunk]

theorem gainLd_read (c : Fin 40) (l : Fin 128) : gainLd arg17 X17 c (ix2 0 l) = gainAt arg17 X17 (lane c l) := by
  unfold gainAt
  rw [gainOf_lane]
  refine View.ld_unit_apply_of _ _ _ _ _ _ ?_
  intro a
  fin_cases a
  · rfl
  · show l.val = 0 + l.val; omega

/-- The running sum of squares at an index. -/
theorem ssqV_read (n : ℕ) (h : n ≤ 40) (i : Fin 32) (l : Fin 128) :
    ssqV arg2 X2 k n h (ix2 i l) = ∑ c : Fin n, rowAt arg2 X2 k i (lane (c.castLE h) l) * rowAt arg2 X2 k i (lane (c.castLE h) l) := by
  induction n with
  | zero => exact Ideal.ofBits_zero .f32
  | succ n ih =>
    rw [Fin.sum_univ_castSucc]
    show ssqV arg2 X2 k n _ (ix2 i l) + chunk arg2 X2 k ⟨n, h⟩ (ix2 i l) * chunk arg2 X2 k ⟨n, h⟩ (ix2 i l) = _
    rw [ih, chunk_read]
    rfl

/-- The running largest magnitude at an index, by what bounds it. -/
theorem maxV_le (n : ℕ) (h : n ≤ 40) (i : Fin 32) (l : Fin 128) (z : EReal) :
    maxV arg2 arg17 X2 X17 k n h (ix2 i l) ≤ z ↔ 0 ≤ z ∧ ∀ c : Fin 40, c.val < n →
      mag (rowAt arg2 X2 k i (lane c l) * gainAt arg17 X17 (lane c l)) ≤ z := by
  induction n with
  | zero =>
    have h0 : maxV arg2 arg17 X2 X17 k 0 h (ix2 i l) = 0 := Ideal.ofBits_zero .f32
    rw [h0]
    simp
  | succ n ih =>
    have hs : maxV arg2 arg17 X2 X17 k (n + 1) h (ix2 i l) = max (maxV arg2 arg17 X2 X17 k n (Nat.le_of_succ_le h) (ix2 i l))
        (mag (chunk arg2 X2 k ⟨n, h⟩ (ix2 i l) * gainLd arg17 X17 ⟨n, h⟩ (ix2 0 l))) := by
      generalize hM : maxV arg2 arg17 X2 X17 k n (Nat.le_of_succ_le h) = M
      rw [maxV, hM]
      pointwise
      rfl
    rw [hs, max_le_iff, ih, chunk_read, gainLd_read]
    constructor
    · rintro ⟨⟨h0, h1⟩, h2⟩
      refine ⟨h0, fun c hc => ?_⟩
      rcases Nat.lt_or_ge c.val n with hn | hn
      · exact h1 c hn
      · obtain rfl : c = ⟨n, h⟩ := Fin.ext (by show c.val = n; omega)
        exact h2
    · rintro ⟨h0, h1⟩
      exact ⟨⟨h0, fun c hc => h1 c (by omega)⟩, h1 ⟨n, h⟩ (Nat.lt_succ_self n)⟩

/-- The root mean square of a token. -/
theorem rmsV_read (i : Fin 32) : rmsV arg2 X2 k (ix2 i 0) = rmsK (rowAt arg2 X2 k i) := by
  unfold rmsV
  rw [rms_read]
  have hl : ∀ l : Fin 128, ssqV arg2 X2 k 39 (by decide) (ix2 i l) + chunk arg2 X2 k 39 (ix2 i l) * chunk arg2 X2 k 39 (ix2 i l)
      = ∑ c : Fin 40, rowAt arg2 X2 k i (lane c l) * rowAt arg2 X2 k i (lane c l) := fun l =>
    ssqV_read arg2 X2 k 40 (by decide) i l
  simp only [hl]
  rw [Finset.sum_comm]
  unfold rmsK ssq
  refine congrArg (fun s => Ideal.rsqrt (s * (((1 / 5120 : ℝ) : ℝ) : EReal) + epsE)) ?_
  exact (Fin.sum_univ_tiles (N := 5120) 40 128 (by decide) fun q => rowAt arg2 X2 k i q * rowAt arg2 X2 k i q).symm

/-- Every lane is a lane of a chunk. -/
theorem exists_lane (q : Fin 5120) : ∃ c l, q = lane c l :=
  ⟨⟨q.val / 128, by omega⟩, ⟨q.val % 128, by omega⟩, Fin.ext (by show q.val = q.val / 128 * 128 + q.val % 128; omega)⟩

theorem mag_nonneg (a : EReal) : 0 ≤ mag a := by
  rcases le_total 0 a with h | h
  · exact h.trans (le_max_left _ _)
  · exact (EReal.neg_nonneg.2 h).trans (le_max_right _ _)

/-- The largest magnitude of a token, over 448. -/
theorem topV_read (i : Fin 32) : topV arg2 arg17 X2 X17 k (ix2 i 0) = topK (rowAt arg2 X2 k i) (gainAt arg17 X17) := by
  unfold topV
  rw [top_read]
  have hr := rmsV_read arg2 X2 k i
  unfold rmsV at hr
  rw [hr]
  unfold topK
  refine congrArg (fun a => a * rmsK (rowAt arg2 X2 k i) * over448) (eq_of_forall_ge_iff fun z => ?_)
  unfold largest
  rw [Finset.fold_max_le, Finset.fold_max_le]
  refine and_congr_right fun _ => ⟨fun H q _ => ?_, fun H l _ => ?_⟩
  · obtain ⟨c, l, rfl⟩ := exists_lane q
    have h2 := max_le_iff.1 (H l (Finset.mem_univ l))
    rw [maxV_le, chunk_read, gainLd_read] at h2
    rcases Nat.lt_or_ge c.val 39 with hc | hc
    · exact h2.1.2 c hc
    · obtain rfl : c = 39 := Fin.ext (by show c.val = 39; omega)
      exact h2.2
  · rw [max_le_iff, maxV_le, chunk_read, gainLd_read]
    exact ⟨⟨(mag_nonneg _).trans (H (lane 0 l) (Finset.mem_univ _)), fun c _ => H _ (Finset.mem_univ _)⟩, H _ (Finset.mem_univ _)⟩

/-- The codes stored for chunk `c`. -/
theorem codeV_read (c : Fin 40) (z : Fin 1) (i : Fin 32) (l : Fin 128) :
    codeV arg2 arg17 X2 X17 k c (ix3 z i l) = codeK (rowAt arg2 X2 k i) (gainAt arg17 X17) (lane c l) := by
  have hm : mulf (rmsV arg2 X2 k) (inverseV (topV arg2 arg17 X2 X17 k)) (ix2 i 0)
      = rmsK (rowAt arg2 X2 k i) * inverseBits (topK (rowAt arg2 X2 k i) (gainAt arg17 X17)) := by
    rw [← rmsV_read, ← topV_read, ← inverseV_apply]
    rfl
  unfold codeV codeK
  rw [code_read, chunkLd_read, gainLd_read, hm]

/-- The scale stored for a token, in every lane. -/
theorem scaleV_read (i : Fin 32) (l : Fin 128) :
    k0_pay126 (scaleV (topV arg2 arg17 X2 X17 k)) (ix2 i l) = scaleK (rowAt arg2 X2 k i) (gainAt arg17 X17) := by
  unfold scaleK
  rw [scale_read, scaleV_apply, topV_read]

/-- What the codes' buffer is to hold. -/
def codesG (x : S1x256x5120.Idx → EReal) (g : S40x128.Idx → EReal) (y : S1x256x5120.Idx) : EReal :=
  codeK (rowOf x (y 1)) (gainOf g) (y 2)

/-- What the scales' buffer is to hold. -/
def scalesG (x : S1x256x5120.Idx → EReal) (g : S40x128.Idx → EReal) (y : S256x128.Idx) : EReal :=
  scaleK (rowOf x (y 0)) (gainOf g)

/-- Every store of codes stores that. -/
theorem codePieces_read (n : ℕ) (h : n ≤ 40) : ∀ p ∈ codePieces arg2 arg17 X2 X17 k n h, ∀ x : p.1.shape.Idx,
    p.2 x = codesG (arg2.view.read (Elt Ideal) X2) (arg17.view.read (Elt Ideal) X17) (p.1.emb x) := by
  induction n with
  | zero => intro p hp; simp [codePieces] at hp
  | succ n ih =>
    intro p hp
    rcases List.mem_cons.1 hp with rfl | hp
    · intro x
      have hx : x = ix3 (n0 := 1) (n1 := 32) (n2 := 128) (x 0) (x 1) (x 2) := by
        funext a; fin_cases a <;> rfl
      refine (congrArg _ hx).trans ((codeV_read arg2 arg17 X2 X17 k ⟨n, h⟩ (x 0) (x 1) (x 2)).trans ?_)
      have hr := rowWord_eq k
      exact congrArg₂ (fun a b => codeK (rowOf _ a) (gainAt arg17 X17) b)
        (Fin.ext (by show 32 * k.val + (x 1).val = rowWord k + 1 * (x 1).val; omega))
        (Fin.ext (by show n * 128 + (x 2).val = 128 * n + 1 * (x 2).val; omega))
    · exact ih _ p hp

/-- The store of scales stores that. -/
theorem scalePiece_read (x : S32x128.Idx) :
    k0_pay126 (scaleV (topV arg2 arg17 X2 X17 k)) x
      = scalesG (arg2.view.read (Elt Ideal) X2) (arg17.view.read (Elt Ideal) X17)
        ((Rect.unit (s := S256x128) ![rowWord k, 0] S32x128.size (scale_inb k)).emb x) := by
  have hx : x = ix2 (n0 := 32) (n1 := 128) (x 0) (x 1) := by
    funext a; fin_cases a <;> rfl
  refine (congrArg _ hx).trans ((scaleV_read arg2 arg17 X2 X17 k (x 0) (x 1)).trans ?_)
  have hr := rowWord_eq k
  exact congrArg (fun a => scaleK (rowOf _ a) (gainAt arg17 X17))
    (Fin.ext (by show 32 * k.val + (x 0).val = rowWord k + 1 * (x 0).val; omega))

end

end Cert.Proof
-- ==== Proof.LoopValues.lean ====
/-
  The whole loop: after its eight trips the codes' buffer holds every token's codes, and the scales' buffer every token's
  scale in each of its lanes.
-/
module

public import proofs.«01_k».proof.Proof.TripValues

@[expose] public section

set_option maxRecDepth 16384

noncomputable section

namespace Cert.Proof

open Idealize.ShloMosaic Idealize.ShloMosaic.TcCoe Idealize.SL.Sem
open Cert.KernelIdeal Cert.KernelIdeal.Gen

section
variable (arg2 : Memref sig .tc .vmem S1x256x5120 .bf16) (arg17 : Memref sig .tc .vmem S40x128 .f32)
  (X2 : BufTy.Contents (Elt Ideal) arg2.view.ty) (X17 : BufTy.Contents (Elt Ideal) arg17.view.ty)
  (k : Fin k0_t1_loop.trips)

/-- One trip's stores of codes reach every lane of its tokens. -/
theorem codePieces_cover (y : S1x256x5120.Idx) (h1 : 32 * k.val ≤ (y 1).val) (h2 : (y 1).val < 32 * k.val + 32) (n : ℕ) (h : n ≤ 40)
    (hy : (y 2).val < 128 * n) : ∃ p ∈ codePieces arg2 arg17 X2 X17 k n h, y ∈ p.1.set := by
  induction n with
  | zero => omega
  | succ n ih =>
    rcases Nat.lt_or_ge (y 2).val (128 * n) with hn | hn
    · obtain ⟨p, hp, hm⟩ := ih _ hn
      exact ⟨p, List.mem_cons_of_mem _ hp, hm⟩
    · refine ⟨_, List.mem_cons_self, (Rect.mem_set_unit (inb := off_inb k ⟨n, h⟩)).2 fun a => ?_⟩
      have hr := rowWord_eq k
      have h0 : (y 0).val < 1 := (y 0).isLt
      fin_cases a
      · exact ⟨Nat.zero_le _, h0⟩
      · exact ⟨by show rowWord k ≤ (y 1).val; omega, by show (y 1).val < rowWord k + 32; omega⟩
      · exact ⟨hn, by show (y 2).val < 128 * n + 128; omega⟩

/-- One trip's store of scales reaches every lane of its tokens. -/
theorem scalePiece_cover (y : S256x128.Idx) (h1 : 32 * k.val ≤ (y 0).val) (h2 : (y 0).val < 32 * k.val + 32) :
    y ∈ (Rect.unit (s := S256x128) ![rowWord k, 0] S32x128.size (scale_inb k)).set := by
  refine Rect.mem_set_unit.2 fun a => ?_
  have hr := rowWord_eq k
  have h0 : (y 1).val < 128 := (y 1).isLt
  fin_cases a
  · exact ⟨by show rowWord k ≤ (y 0).val; omega, by show (y 0).val < rowWord k + 32; omega⟩
  · exact ⟨Nat.zero_le _, by show (y 1).val < 0 + 128; omega⟩

end

section
variable (c : Dev nD) (i : grid0.Coords) (arg2 : Memref sig .tc .vmem S1x256x5120 .bf16) (harg2 : arg2.IsWhole) (arg3 : Memref sig .tc .vmem S40x128 .bf16) (harg3 : arg3.IsWhole) (arg4 : Memref sig .tc .vmem S640x5120 .fp8e4m3) (harg4 : arg4.IsWhole) (arg5 : Memref sig .tc .vmem S5x128 .f32) (harg5 : arg5.IsWhole) (arg6 : Memref sig .tc .vmem S640x5120 .fp8e4m3) (harg6 : arg6.IsWhole) (arg7 : Memref sig .tc .vmem S5x128 .f32) (harg7 : arg7.IsWhole) (arg8 : Memref sig .tc .vmem S640x5120 .fp8e4m3) (harg8 : arg8.IsWhole) (arg9 : Memref sig .tc .vmem S5x128 .f32) (harg9 : arg9.IsWhole) (arg10 : Memref sig .tc .vmem S1x128 .bf16) (harg10 : arg10.IsWhole) (arg11 : Memref sig .tc .vmem S1x128 .bf16) (harg11 : arg11.IsWhole) (arg12 : Memref sig .tc .vmem S1x5x256x128 .bf16) (harg12 : arg12.IsWhole) (arg13 : Memref sig .tc .vmem S1x5x256x128 .bf16) (harg13 : arg13.IsWhole) (arg14 : Memref sig .tc .vmem S1x5x256x128 .bf16) (harg14 : arg14.IsWhole) (arg15 : Memref sig .tc .vmem S1x256x5120 .fp8e4m3) (harg15 : arg15.IsWhole) (arg16 : Memref sig .tc .vmem S1x1x256 .f32) (harg16 : arg16.IsWhole) (arg17 : Memref sig .tc .vmem S40x128 .f32) (harg17 : arg17.IsWhole) (arg18 : Memref sig .tc .vmem S256x128 .f32) (harg18 : arg18.IsWhole)
  (X2 : BufTy.Contents (Elt Ideal) arg2.view.ty) (X17 : BufTy.Contents (Elt Ideal) arg17.view.ty)

/-- What holds of the stores of the first `n` trips. -/
theorem loop_inv (n : ℕ) (hn : n ≤ k0_t1_loop.trips) :
    ((∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 n).1, ∀ x : p.1.shape.Idx, p.2 x = codesG (arg2.view.read (Elt Ideal) X2) (arg17.view.read (Elt Ideal) X17) (p.1.emb x))
      ∧ ∀ y : S1x256x5120.Idx, (y 1).val < 32 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 n).1, y ∈ p.1.set)
    ∧ ((∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 n).2, ∀ x : p.1.shape.Idx, p.2 x = scalesG (arg2.view.read (Elt Ideal) X2) (arg17.view.read (Elt Ideal) X17) (p.1.emb x))
      ∧ ∀ y : S256x128.Idx, (y 0).val < 32 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 n).2, y ∈ p.1.set) := by
  induction n with
  | zero =>
    have h0 : (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 0) = ([], []) := rfl
    rw [h0]
    refine ⟨⟨fun p hp => absurd hp List.not_mem_nil, fun y hy => absurd hy (by omega)⟩, fun p hp => absurd hp List.not_mem_nil, fun y hy => absurd hy (by omega)⟩
  | succ n ih =>
    obtain ⟨⟨hA, hC⟩, hB, hD⟩ := ih (Nat.le_of_succ_le hn)
    have hs := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 ⟨n, hn⟩
    rw [trip_pieces] at hs
    change (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 (n + 1)) = _ at hs
    rw [hs]
    clear hs
    dsimp only
    refine ⟨⟨fun p hp => ?_, fun y hy => ?_⟩, fun p hp => ?_, fun y hy => ?_⟩
    · rcases List.mem_append.1 hp with hp | hp
      · exact codePieces_read arg2 arg17 X2 X17 ⟨n, hn⟩ 40 (by decide) p hp
      · exact hA p hp
    · rcases Nat.lt_or_ge (y 1).val (32 * n) with h | h
      · obtain ⟨p, hp, hm⟩ := hC y h
        exact ⟨p, List.mem_append_right _ hp, hm⟩
      · have h2 : (y 2).val < 5120 := (y 2).isLt
        obtain ⟨p, hp, hm⟩ := codePieces_cover arg2 arg17 X2 X17 ⟨n, hn⟩ y h (by show _ < 32 * n + 32; omega) 40 (by decide) (by omega)
        exact ⟨p, List.mem_append_left _ hp, hm⟩
    · rcases List.mem_append.1 hp with hp | hp
      · obtain rfl := List.mem_singleton.1 hp
        exact scalePiece_read arg2 arg17 X2 X17 ⟨n, hn⟩
      · exact hB p hp
    · rcases Nat.lt_or_ge (y 0).val (32 * n) with h | h
      · obtain ⟨p, hp, hm⟩ := hD y h
        exact ⟨p, List.mem_append_right _ hp, hm⟩
      · exact ⟨_, List.mem_append_left _ (List.mem_singleton.2 rfl),
          scalePiece_cover ⟨n, hn⟩ y h (by show _ < 32 * n + 32; omega)⟩

theorem trips_eq : Scf.trips (0#32) (Scalar.addi 0#32 8#32) 1#32 = 8 := by decide

/-- The codes after the loop. -/
theorem loop_codes : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 (Scf.trips (0#32) (Scalar.addi 0#32 8#32) 1#32)).1
    = codesG (arg2.view.read (Elt Ideal) X2) (arg17.view.read (Elt Ideal) X17) := by
  rw [trips_eq]
  have h := (loop_inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 8 (by decide)).1
  funext y
  have h1 : (y 1).val < 256 := (y 1).isLt
  exact View.canon_apply_of_pieces _ _ h.1 y (h.2 y (by omega))

/-- The scales after the loop. -/
theorem loop_scales : View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 (Scf.trips (0#32) (Scalar.addi 0#32 8#32) 1#32)).2
    = scalesG (arg2.view.read (Elt Ideal) X2) (arg17.view.read (Elt Ideal) X17) := by
  rw [trips_eq]
  have h := (loop_inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X17 8 (by decide)).2
  funext y
  have h1 : (y 0).val < 256 := (y 0).isLt
  exact View.canon_apply_of_pieces _ _ h.1 y (h.2 y (by omega))

end

end Cert.Proof
-- ==== Proof.BodyPieces.lean ====
/-
  What one run of the kernel stores: the heads, the codes and the scales, with the loop's buffers as they are read back.
-/
module

public import proofs.«01_k».proof.Proof.Heads
public import proofs.«01_k».proof.Proof.LoopValues

@[expose] public section

set_option maxRecDepth 16384

noncomputable section

namespace Cert.Proof

open Idealize.ShloMosaic Idealize.ShloMosaic.TcCoe Idealize.SL.Sem
open Cert.KernelIdeal Cert.KernelIdeal.Gen

/-- The store of the gain, in float32. -/
def gainPieces (arg3 : Memref sig .tc .vmem S40x128 .bf16) (harg3 : arg3.IsWhole) (x1 : Vec Ideal S40x128 .bf16) :
    List (View.Piece (Elt Ideal) S40x128 .f32) :=
  [⟨Rect.unit (s := S40x128) ![0, 0] S40x128.size inb_S40x128_S40x128_0_0,
    k0_pay124 (View.readAt (Elt Ideal) arg3.view (Rect.unit (s := S40x128) ![0, 0] S40x128.size inb_S40x128_S40x128_0_0).toLoadRect (harg3.unread x1))⟩]

section
variable (c : Dev nD) (i : grid0.Coords) (arg2 : Memref sig .tc .vmem S1x256x5120 .bf16) (harg2 : arg2.IsWhole) (arg3 : Memref sig .tc .vmem S40x128 .bf16) (harg3 : arg3.IsWhole) (arg4 : Memref sig .tc .vmem S640x5120 .fp8e4m3) (harg4 : arg4.IsWhole) (arg5 : Memref sig .tc .vmem S5x128 .f32) (harg5 : arg5.IsWhole) (arg6 : Memref sig .tc .vmem S640x5120 .fp8e4m3) (harg6 : arg6.IsWhole) (arg7 : Memref sig .tc .vmem S5x128 .f32) (harg7 : arg7.IsWhole) (arg8 : Memref sig .tc .vmem S640x5120 .fp8e4m3) (harg8 : arg8.IsWhole) (arg9 : Memref sig .tc .vmem S5x128 .f32) (harg9 : arg9.IsWhole) (arg10 : Memref sig .tc .vmem S1x128 .bf16) (harg10 : arg10.IsWhole) (arg11 : Memref sig .tc .vmem S1x128 .bf16) (harg11 : arg11.IsWhole) (arg12 : Memref sig .tc .vmem S1x5x256x128 .bf16) (harg12 : arg12.IsWhole) (arg13 : Memref sig .tc .vmem S1x5x256x128 .bf16) (harg13 : arg13.IsWhole) (arg14 : Memref sig .tc .vmem S1x5x256x128 .bf16) (harg14 : arg14.IsWhole) (arg15 : Memref sig .tc .vmem S1x256x5120 .fp8e4m3) (harg15 : arg15.IsWhole) (arg16 : Memref sig .tc .vmem S1x1x256 .f32) (harg16 : arg16.IsWhole) (arg17 : Memref sig .tc .vmem S40x128 .f32) (harg17 : arg17.IsWhole) (arg18 : Memref sig .tc .vmem S256x128 .f32) (harg18 : arg18.IsWhole)
  (x0 : Vec Ideal S1x256x5120 .bf16) (x1 : Vec Ideal S40x128 .bf16) (x2 : Vec Ideal S640x5120 .fp8e4m3) (x3 : Vec Ideal S5x128 .f32) (x4 : Vec Ideal S640x5120 .fp8e4m3) (x5 : Vec Ideal S5x128 .f32) (x6 : Vec Ideal S640x5120 .fp8e4m3) (x7 : Vec Ideal S5x128 .f32) (x8 : Vec Ideal S1x128 .bf16) (x9 : Vec Ideal S1x128 .bf16)

/-- The codes, read back after the loop. -/
def codesLd : Vec Ideal S1x256x5120 .fp8e4m3 :=
  arg15.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg2.unread x0) (arg17.view.writes (Elt Ideal) arg17.view.junk (gainPieces arg3 harg3 x1)) (Scf.trips (0#32) (Scalar.addi 0#32 8#32) 1#32)).1 (Rect.unit (s := S1x256x5120) ![0, 0, 0] S1x256x5120.size inb_S1x256x5120_S1x256x5120_0_0_0).toLoadRect

/-- The scales, read back after the loop. -/
def scalesLd : Vec Ideal S256x128 .f32 :=
  arg18.view.readCov (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg2.unread x0) (arg17.view.writes (Elt Ideal) arg17.view.junk (gainPieces arg3 harg3 x1)) (Scf.trips (0#32) (Scalar.addi 0#32 8#32) 1#32)).2 (Rect.unit (s := S256x128) ![0, 0] S256x128.size inb_S256x128_S256x128_0_0).toLoadRect

/-- The first result's window. -/
theorem out_10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = View.canon (normPieces (k0_pay128 (codesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) (View.readAt (Elt Ideal) arg4.view (Rect.unit (s := S640x5120) ![0, 0] S640x5120.size inb_S640x5120_S640x5120_0_0).toLoadRect (harg4.unread x2))) (scalesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) arg5 (harg5.unread x3) (View.readAt (Elt Ideal) arg10.view (Rect.unit (s := S1x128) ![0, 0] S1x128.size inb_S1x128_S1x128_0_0).toLoadRect (harg10.unread x8)) 5 (by decide)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9)]
  unfold kernelRun0_A
  dsimp only
  rfl

/-- The second result's window. -/
theorem out_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = View.canon (normPieces (k0_pay128 (codesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) (View.readAt (Elt Ideal) arg6.view (Rect.unit (s := S640x5120) ![0, 0] S640x5120.size inb_S640x5120_S640x5120_0_0).toLoadRect (harg6.unread x4))) (scalesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) arg7 (harg7.unread x5) (View.readAt (Elt Ideal) arg11.view (Rect.unit (s := S1x128) ![0, 0] S1x128.size inb_S1x128_S1x128_0_0).toLoadRect (harg11.unread x9)) 5 (by decide)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9)]
  unfold kernelRun0_A
  dsimp only
  rfl

/-- The third result's window. -/
theorem out_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = View.canon (plainPieces (k0_pay128 (codesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) (View.readAt (Elt Ideal) arg8.view (Rect.unit (s := S640x5120) ![0, 0] S640x5120.size inb_S640x5120_S640x5120_0_0).toLoadRect (harg8.unread x6))) (scalesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1) arg9 (harg9.unread x7) 5 (by decide)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9)]
  unfold kernelRun0_A
  dsimp only
  rfl

/-- The codes' window. -/
theorem out_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg2.unread x0) (arg17.view.writes (Elt Ideal) arg17.view.junk (gainPieces arg3 harg3 x1)) (Scf.trips (0#32) (Scalar.addi 0#32 8#32) 1#32)).1 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9)]
  unfold kernelRun0_A
  dsimp only
  rfl

/-- The scales' window. -/
theorem out_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = View.canon [⟨Rect.unit (s := S1x1x256) ![0, 0, 0] S1x1x256.size inb_S1x1x256_S1x1x256_0_0_0, k0_pay127 (scalesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1)⟩] := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9)]
  unfold kernelRun0_A
  dsimp only
  rfl

end

end Cert.Proof
-- ==== Proof.BodyValues.lean ====
/-
  What one run of the kernel stores, as functions of the blocks it reads.
-/
module

public import proofs.«01_k».proof.Proof.BodyPieces

@[expose] public section

set_option maxRecDepth 16384

noncomputable section

namespace Cert.Proof

open Idealize.ShloMosaic Idealize.ShloMosaic.TcCoe Idealize.SL.Sem
open Cert.KernelIdeal Cert.KernelIdeal.Gen

/-- A whole buffer loaded whole is what it was filled with. -/
theorem load_whole {S : Shape} {e : EltTy} (m : Memref sig .tc .vmem S e) (h : m.IsWhole) (x : Vec Ideal S e) (off : Fin S.rank → ℕ)
    (inb : ∀ a, off a + S.size a ≤ S.size a) (h0 : ∀ a, off a = 0) :
    m.view.readAt (Elt Ideal) (Rect.unit (s := S) off S.size inb).toLoadRect (h.unread x) = x := by
  rw [View.readAt_eq_ld, Memref.IsWhole.read_unread]
  exact View.ld_unit_lit inb x h0

/-- A whole buffer read back whole is what its stores left. -/
theorem readCov_whole {S : Shape} {e : EltTy} (m : Memref sig .tc .vmem S e) (L : List (View.Piece (Elt Ideal) S e)) (off : Fin S.rank → ℕ)
    (inb : ∀ a, off a + S.size a ≤ S.size a) (h0 : ∀ a, off a = 0) :
    m.view.readCov L (Rect.unit (s := S) off S.size inb).toLoadRect = View.canon L := by
  rw [View.readCov_eq_canon']
  exact View.ld_unit_lit inb (View.canon L) h0

/-- The gain in float32 is the gain. -/
theorem gain_eq (x : Vec Ideal S40x128 .bf16) : k0_pay124 x = x := by
  funext y
  have hy : y = ix2 (n0 := 40) (n1 := 128) (y 0) (y 1) := by
    funext a; fin_cases a <;> rfl
  rw [hy]
  generalize (y 0 : Fin 40) = i
  generalize (y 1 : Fin 128) = l
  pointwise [k0_pay124]

/-- The scales, transposed, first row. -/
theorem scales_row (S : Vec Ideal S256x128 .f32) (a b : Fin 1) (p : Fin 256) : k0_pay127 S (ix3 a b p) = S (ix2 p 0) := by
  obtain rfl : a = 0 := Subsingleton.elim _ _
  obtain rfl : b = 0 := Subsingleton.elim _ _
  pointwise [k0_pay127]

/-- The window of scales. -/
def scaleRowG (x : S1x256x5120.Idx → EReal) (g : S40x128.Idx → EReal) (y : S1x1x256.Idx) : EReal :=
  scaleK (rowOf x (y 2)) (gainOf g)

section
variable (c : Dev nD) (i : grid0.Coords) (arg2 : Memref sig .tc .vmem S1x256x5120 .bf16) (harg2 : arg2.IsWhole) (arg3 : Memref sig .tc .vmem S40x128 .bf16) (harg3 : arg3.IsWhole) (arg4 : Memref sig .tc .vmem S640x5120 .fp8e4m3) (harg4 : arg4.IsWhole) (arg5 : Memref sig .tc .vmem S5x128 .f32) (harg5 : arg5.IsWhole) (arg6 : Memref sig .tc .vmem S640x5120 .fp8e4m3) (harg6 : arg6.IsWhole) (arg7 : Memref sig .tc .vmem S5x128 .f32) (harg7 : arg7.IsWhole) (arg8 : Memref sig .tc .vmem S640x5120 .fp8e4m3) (harg8 : arg8.IsWhole) (arg9 : Memref sig .tc .vmem S5x128 .f32) (harg9 : arg9.IsWhole) (arg10 : Memref sig .tc .vmem S1x128 .bf16) (harg10 : arg10.IsWhole) (arg11 : Memref sig .tc .vmem S1x128 .bf16) (harg11 : arg11.IsWhole) (arg12 : Memref sig .tc .vmem S1x5x256x128 .bf16) (harg12 : arg12.IsWhole) (arg13 : Memref sig .tc .vmem S1x5x256x128 .bf16) (harg13 : arg13.IsWhole) (arg14 : Memref sig .tc .vmem S1x5x256x128 .bf16) (harg14 : arg14.IsWhole) (arg15 : Memref sig .tc .vmem S1x256x5120 .fp8e4m3) (harg15 : arg15.IsWhole) (arg16 : Memref sig .tc .vmem S1x1x256 .f32) (harg16 : arg16.IsWhole) (arg17 : Memref sig .tc .vmem S40x128 .f32) (harg17 : arg17.IsWhole) (arg18 : Memref sig .tc .vmem S256x128 .f32) (harg18 : arg18.IsWhole)
  (x0 : Vec Ideal S1x256x5120 .bf16) (x1 : Vec Ideal S40x128 .bf16) (x2 : Vec Ideal S640x5120 .fp8e4m3) (x3 : Vec Ideal S5x128 .f32) (x4 : Vec Ideal S640x5120 .fp8e4m3) (x5 : Vec Ideal S5x128 .f32) (x6 : Vec Ideal S640x5120 .fp8e4m3) (x7 : Vec Ideal S5x128 .f32) (x8 : Vec Ideal S1x128 .bf16) (x9 : Vec Ideal S1x128 .bf16)

/-- The gain's buffer after its store. -/
theorem gain_read : arg17.view.read (Elt Ideal) (arg17.view.writes (Elt Ideal) arg17.view.junk (gainPieces arg3 harg3 x1)) = x1 := by
  rw [View.read_writes_junk_eq_canon]
  unfold gainPieces
  rw [load_whole arg3 harg3 x1 _ _ (by decide)]
  exact (View.canon_cons_unit_lit _ _ _ (by decide)).trans (gain_eq x1)

theorem codesLd_eq : codesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 = codesG x0 x1 := by
  unfold codesLd
  rw [readCov_whole _ _ _ _ (by decide), loop_codes, gain_read, Memref.IsWhole.read_unread]

theorem scalesLd_eq : scalesLd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 = scalesG x0 x1 := by
  unfold scalesLd
  rw [readCov_whole _ _ _ _ (by decide), loop_scales, gain_read, Memref.IsWhole.read_unread]

/-- Window 10: normalised heads. -/
theorem win_10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = normG (codesG x0 x1) x2 (scalesG x0 x1) x8 x3 := by
  rw [out_10, norm_window, codesLd_eq, scalesLd_eq, Memref.IsWhole.read_unread,
    load_whole arg4 harg4 x2 _ _ (by decide), load_whole arg10 harg10 x8 _ _ (by decide)]

/-- Window 11: normalised heads. -/
theorem win_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = normG (codesG x0 x1) x4 (scalesG x0 x1) x9 x5 := by
  rw [out_11, norm_window, codesLd_eq, scalesLd_eq, Memref.IsWhole.read_unread,
    load_whole arg6 harg6 x4 _ _ (by decide), load_whole arg11 harg11 x9 _ _ (by decide)]

/-- Window 12: plain heads. -/
theorem win_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9
    = plainG (codesG x0 x1) x6 (scalesG x0 x1) x7 := by
  rw [out_12, plain_window, codesLd_eq, scalesLd_eq, Memref.IsWhole.read_unread,
    load_whole arg8 harg8 x6 _ _ (by decide)]

/-- Window 13: the codes. -/
theorem win_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 = codesG x0 x1 := by
  rw [out_13, loop_codes, gain_read, Memref.IsWhole.read_unread]

/-- Window 14: the scales. -/
theorem win_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 = scaleRowG x0 x1 := by
  rw [out_14, scalesLd_eq]
  refine (View.canon_cons_unit_lit _ _ _ (by decide)).trans ?_
  funext y
  have hy : y = ix3 (n0 := 1) (n1 := 1) (n2 := 256) (y 0) (y 1) (y 2) := by
    funext a; fin_cases a <;> rfl
  exact (congrArg _ hy).trans (scales_row _ _ _ _)

end

end Cert.Proof
-- ==== Proof.KernelArrays.lean ====
/-
  The five arrays the kernel's grid leaves, as functions of the arrays it is launched on.
-/
module

public import proofs.«01_k».proof.Proof.BodyValues

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The blocks' indices -/

theorem ix_0 : ∀ t : Fin cfg0.N, win0_0.index t = ![(grid0.coords t 0).val, (grid0.coords t 1).val, 0] :=
  (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![(grid0.coords t 0).val, 0, (grid0.coords t 1).val, 0] :=
  (by decide +kernel : ∀ t : Fin grid0.N, _)
theorem ix_11 : ∀ t : Fin cfg0.N, win0_11.index t = ![(grid0.coords t 0).val, 0, (grid0.coords t 1).val, 0] :=
  (by decide +kernel : ∀ t : Fin grid0.N, _)
theorem ix_12 : ∀ t : Fin cfg0.N, win0_12.index t = ![(grid0.coords t 0).val, 0, (grid0.coords t 1).val, 0] :=
  (by decide +kernel : ∀ t : Fin grid0.N, _)
theorem ix_13 : ∀ t : Fin cfg0.N, win0_13.index t = ![(grid0.coords t 0).val, (grid0.coords t 1).val, 0] :=
  (by decide +kernel : ∀ t : Fin grid0.N, _)
theorem ix_14 : ∀ t : Fin cfg0.N, win0_14.index t = ![(grid0.coords t 0).val, 0, (grid0.coords t 1).val] :=
  (by decide +kernel : ∀ t : Fin grid0.N, _)

/-- The sequence of a grid point. -/
def seqOf (t : Fin cfg0.N) : Fin 3 := grid0.coords t 0

/-- The first token of a grid point is 256 times this. -/
def tileOf (t : Fin cfg0.N) : Fin 4 := grid0.coords t 1

/-- Token `p` of a grid point. -/
def tokOf (t : Fin cfg0.N) (p : Fin 256) : Fin 1024 := ⟨(tileOf t).val * 256 + p.val, by omega⟩

/-! ## The blocks read -/

theorem row_block {x : Tokens} (hx : V m c main_arg0 = x) (t : Fin cfg0.N) (p : Fin 256) :
    rowOf (iblk m c 0 t) p = tokenRow x (seqOf t) (tokOf t p) := by
  subst hx
  funext q
  unfold rowOf tokenRow
  blk_ext [iblk, ix_0]
  all_goals first | rfl | (simp only [seqOf, tokOf, tileOf]; done) | (simp only [seqOf, Nat.add_zero])

theorem gain_block {g : Gain} (hg : ∀ i l, V m c main_v0 (ix2 i l) = g (ix1 ⟨i.val * 128 + l.val, by omega⟩)) (t : Fin cfg0.N) :
    gainOf (iblk m c 1 t) = gainRow g := by
  funext q
  have h : iblk m c 1 t (ix2 ⟨q.val / 128, by omega⟩ ⟨q.val % 128, by omega⟩)
      = V m c main_v0 (ix2 ⟨q.val / 128, by omega⟩ ⟨q.val % 128, by omega⟩) := by
    blk_ext [iblk, ix_1]
  refine h.trans ((hg _ _).trans (congrArg (fun k => g (ix1 k)) (Fin.ext ?_)))
  show q.val / 128 * 128 + q.val % 128 = q.val
  omega

theorem whole_2 (t : Fin cfg0.N) (y : S640x5120.Idx) : iblk m c 2 t y = V m c main_arg2 y := by blk_ext [iblk, ix_2]
theorem whole_3 (t : Fin cfg0.N) (y : S5x128.Idx) : iblk m c 3 t y = V m c main_v1 y := by blk_ext [iblk, ix_3]
theorem whole_4 (t : Fin cfg0.N) (y : S640x5120.Idx) : iblk m c 4 t y = V m c main_arg4 y := by blk_ext [iblk, ix_4]
theorem whole_5 (t : Fin cfg0.N) (y : S5x128.Idx) : iblk m c 5 t y = V m c main_v2 y := by blk_ext [iblk, ix_5]
theorem whole_6 (t : Fin cfg0.N) (y : S640x5120.Idx) : iblk m c 6 t y = V m c main_arg6 y := by blk_ext [iblk, ix_6]
theorem whole_7 (t : Fin cfg0.N) (y : S5x128.Idx) : iblk m c 7 t y = V m c main_v3 y := by blk_ext [iblk, ix_7]
theorem whole_8 (t : Fin cfg0.N) (y : S1x128.Idx) : iblk m c 8 t y = V m c main_v4 y := by blk_ext [iblk, ix_8]
theorem whole_9 (t : Fin cfg0.N) (y : S1x128.Idx) : iblk m c 9 t y = V m c main_v5 y := by blk_ext [iblk, ix_9]

/-! ## The windows -/

section
variable {m c} {x : Tokens} {g : Gain} (hx : V m c main_arg0 = x)
  (hg : ∀ i l, V m c main_v0 (ix2 i l) = g (ix1 ⟨i.val * 128 + l.val, by omega⟩))
include hx hg

/-- The projection at a grid point. -/
theorem proj_block (t : Fin cfg0.N) {Wb : Vec Ideal S640x5120 .fp8e4m3} {W : Weights} (hW : ∀ y, Wb y = W y)
    {wb : S5x128.Idx → EReal} {ws : WScales} (hws : ∀ n j, wb (ix2 n j) = ws (ix1 (col n j))) (n : Fin 5) (p : Fin 256) :
    projG (codesG (iblk m c 0 t) (iblk m c 1 t)) Wb (scalesG (iblk m c 0 t) (iblk m c 1 t)) wb n p
      = projOf codeK scaleK x g W ws (seqOf t) (tokOf t p) n := by
  funext j
  unfold projG projOf projE
  rw [← row_block m c hx t p, ← gain_block m c hg t, hws]
  refine congrArg (fun a => a * scaleK (rowOf (iblk m c 0 t) p) (gainOf (iblk m c 1 t)) * ws (ix1 (col n j))) ?_
  exact Finset.sum_congr rfl fun q _ => congrArg _ (hW _)

theorem norm_block (t : Fin cfg0.N) {Wb : Vec Ideal S640x5120 .fp8e4m3} {W : Weights} (hW : ∀ y, Wb y = W y)
    {wb : S5x128.Idx → EReal} {ws : WScales} (hws : ∀ n j, wb (ix2 n j) = ws (ix1 (col n j)))
    {gb : Vec Ideal S1x128 .bf16} {gn : HGain} (hgn : ∀ j, gb (ix2 0 j) = gn (ix1 j)) (y : S1x5x256x128.Idx)
    (a : Fin 3) (b : Fin 1024) (n : Fin 5) (l : Fin 128) (ha : a = seqOf t) (hb : b = tokOf t (y 2)) (hn : n = y 1) (hl : l = y 3) :
    normG (codesG (iblk m c 0 t) (iblk m c 1 t)) Wb (scalesG (iblk m c 0 t) (iblk m c 1 t)) gb wb y
      = normOf codeK scaleK x g W ws gn (ix4 a b n l) := by
  subst ha hb hn hl
  have e := proj_block hx hg t hW hws (y 1) (y 2)
  have e2 : (fun j => gb (ix2 0 j)) = fun j => gn (ix1 j) := funext hgn
  exact congrArg₂ (fun f k => headE f k (y 3)) e e2

theorem plain_block (t : Fin cfg0.N) {Wb : Vec Ideal S640x5120 .fp8e4m3} {W : Weights} (hW : ∀ y, Wb y = W y)
    {wb : S5x128.Idx → EReal} {ws : WScales} (hws : ∀ n j, wb (ix2 n j) = ws (ix1 (col n j))) (y : S1x5x256x128.Idx)
    (a : Fin 3) (b : Fin 1024) (n : Fin 5) (l : Fin 128) (ha : a = seqOf t) (hb : b = tokOf t (y 2)) (hn : n = y 1) (hl : l = y 3) :
    plainG (codesG (iblk m c 0 t) (iblk m c 1 t)) Wb (scalesG (iblk m c 0 t) (iblk m c 1 t)) wb y
      = plainOf codeK scaleK x g W ws (ix4 a b n l) := by
  subst ha hb hn hl
  exact congrFun (proj_block hx hg t hW hws (y 1) (y 2)) (y 3)

theorem codes_block (t : Fin cfg0.N) (y : S1x256x5120.Idx) (a : Fin 3) (b : Fin 1024) (q : Fin 5120) (ha : a = seqOf t)
    (hb : b = tokOf t (y 1)) (hq : q = y 2) :
    codesG (iblk m c 0 t) (iblk m c 1 t) y = codesOf codeK x g (ix3 a b q) := by
  subst ha hb hq
  exact congrArg₂ (fun f k => codeK f k (y 2)) (row_block m c hx t (y 1)) (gain_block m c hg t)

theorem scales_block (t : Fin cfg0.N) (y : S1x1x256.Idx) (a : Fin 3) (b : Fin 1024) (ha : a = seqOf t) (hb : b = tokOf t (y 2)) :
    scaleRowG (iblk m c 0 t) (iblk m c 1 t) y = scalesOf scaleK x g (ix3 a b 0) := by
  subst ha hb
  exact congrArg₂ scaleK (row_block m c hx t (y 2)) (gain_block m c hg t)

/-! ## The arrays -/

/-- The first array: normalised heads. -/
theorem arr_10 {W : Weights} (hW : V m c main_arg2 = W) {ws : WScales} (hws : ∀ n j, V m c main_v1 (ix2 n j) = ws (ix1 (col n j)))
    {gn : HGain} (hgn : ∀ j, V m c main_v4 (ix2 0 j) = gn (ix1 j)) :
    (dats m 0 c).arrAt 10 cfg0.N = fun y : S3x5x1024x128.Idx => normOf codeK scaleK x g W ws gn (ix4 (y 0) (y 2) (y 1) (y 3)) := by
  subst hW
  refine (dats m 0 c).arrAt_eq_of_covers 10 _ (by decide +kernel) fun t hf y => ?_
  blk_simp
  rw [after0_10]
  unfold outsAt0
  dsimp only
  rw [win_10]
  refine norm_block hx hg t (whole_2 m c t) (fun n j => (whole_3 m c t _).trans (hws n j)) (fun j => (whole_8 m c t _).trans (hgn j)) y
    _ _ _ _ (Fin.ext ?_) (Fin.ext ?_) (Fin.ext ?_) (Fin.ext ?_)
  all_goals blk_simp [ix_10]
  all_goals rfl

/-- The second array: normalised heads. -/
theorem arr_11 {W : Weights} (hW : V m c main_arg4 = W) {ws : WScales} (hws : ∀ n j, V m c main_v2 (ix2 n j) = ws (ix1 (col n j)))
    {gn : HGain} (hgn : ∀ j, V m c main_v5 (ix2 0 j) = gn (ix1 j)) :
    (dats m 0 c).arrAt 11 cfg0.N = fun y : S3x5x1024x128.Idx => normOf codeK scaleK x g W ws gn (ix4 (y 0) (y 2) (y 1) (y 3)) := by
  subst hW
  refine (dats m 0 c).arrAt_eq_of_covers 11 _ (by decide +kernel) fun t hf y => ?_
  blk_simp
  rw [after0_11]
  unfold outsAt0
  dsimp only
  rw [win_11]
  refine norm_block hx hg t (whole_4 m c t) (fun n j => (whole_5 m c t _).trans (hws n j)) (fun j => (whole_9 m c t _).trans (hgn j)) y
    _ _ _ _ (Fin.ext ?_) (Fin.ext ?_) (Fin.ext ?_) (Fin.ext ?_)
  all_goals blk_simp [ix_11]
  all_goals rfl

/-- The third array: plain heads. -/
theorem arr_12 {W : Weights} (hW : V m c main_arg6 = W) {ws : WScales} (hws : ∀ n j, V m c main_v3 (ix2 n j) = ws (ix1 (col n j))) :
    (dats m 0 c).arrAt 12 cfg0.N = fun y : S3x5x1024x128.Idx => plainOf codeK scaleK x g W ws (ix4 (y 0) (y 2) (y 1) (y 3)) := by
  subst hW
  refine (dats m 0 c).arrAt_eq_of_covers 12 _ (by decide +kernel) fun t hf y => ?_
  blk_simp
  rw [after0_12]
  unfold outsAt0
  dsimp only
  rw [win_12]
  refine plain_block hx hg t (whole_6 m c t) (fun n j => (whole_7 m c t _).trans (hws n j)) y
    _ _ _ _ (Fin.ext ?_) (Fin.ext ?_) (Fin.ext ?_) (Fin.ext ?_)
  all_goals blk_simp [ix_12]
  all_goals rfl

/-- The fourth array: the codes. -/
theorem arr_13 : (dats m 0 c).arrAt 13 cfg0.N = fun y : S3x1024x5120.Idx => codesOf codeK x g (ix3 (y 0) (y 1) (y 2)) := by
  refine (dats m 0 c).arrAt_eq_of_covers 13 _ (by decide +kernel) fun t hf y => ?_
  blk_simp
  rw [after0_13]
  unfold outsAt0
  dsimp only
  rw [win_13]
  refine codes_block hx hg t y
    _ _ _ (Fin.ext ?_) (Fin.ext ?_) (Fin.ext ?_)
  all_goals blk_simp [ix_13]
  all_goals rfl

/-- The fifth array: the scales. -/
theorem arr_14 : (dats m 0 c).arrAt 14 cfg0.N = fun y : S3x1x1024.Idx => scalesOf scaleK x g (ix3 (y 0) (y 2) 0) := by
  refine (dats m 0 c).arrAt_eq_of_covers 14 _ (by decide +kernel) fun t hf y => ?_
  blk_simp
  rw [after0_14]
  unfold outsAt0
  dsimp only
  rw [win_14]
  refine scales_block hx hg t y
    _ _ (Fin.ext ?_) (Fin.ext ?_)
  all_goals blk_simp [ix_14]
  all_goals rfl

end

end Cert.Proof
-- ==== Proof.KernelValue.lean ====
/-
  The kernel program's five results as functions of its arguments: the host's reshapes before the grid and its transposes
  after it around the grid's arrays.
-/
module

public import proofs.«01_k».proof.Proof.KernelArrays
public import Idealize.ShloMosaic.Lib.StableHlo.Run

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The gain, laid out in 40 rows of 128. -/
theorem V_gain (i : Fin 40) (l : Fin 128) :
    V m c main_v0 (ix2 i l) = (m ((c : Thread nD τ).loc main_arg1) : Gain) (ix1 ⟨i.val * 128 + l.val, by omega⟩) := by
  have h : V m c main_v0 = shapeCast S40x128 (m ((c : Thread nD τ).loc main_arg1)) shapeCasts_S5120_S40x128 := by
    show StableHlo.after (List.flatten [hostOps0]) (fun b => m (c, b)) main_v0 = _
    simp only [hostOps0, List.flatten_cons, List.flatten_nil, List.append_nil]
    after_results
    rfl
  rw [h]
  pointwise

/-- A column of weight scales laid out in 5 rows of 128. -/
theorem ws_cast (w : WScales) (n : Fin 5) (j : Fin 128) :
    shapeCast S5x128 w shapeCasts_S640_S5x128 (ix2 n j) = w (ix1 (col n j)) := by
  have h : shapeCast S5x128 w shapeCasts_S640_S5x128 (ix2 n j) = w (ix1 ⟨n.val * 128 + j.val, by omega⟩) := by pointwise
  rw [h]
  exact congrArg (fun k => w (ix1 k)) (Fin.ext (by show n.val * 128 + j.val = 128 * n.val + j.val; omega))

/-- A head's gain as one row. -/
theorem hg_cast (w : HGain) (j : Fin 128) : shapeCast S1x128 w shapeCasts_S128_S1x128 (ix2 0 j) = w (ix1 j) := by pointwise

theorem V_main_v1 (n : Fin 5) (j : Fin 128) : V m c main_v1 (ix2 n j) = (m ((c : Thread nD τ).loc main_arg3) : WScales) (ix1 (col n j)) := by
  have h : V m c main_v1 = shapeCast S5x128 (m ((c : Thread nD τ).loc main_arg3)) shapeCasts_S640_S5x128 := by
    show StableHlo.after (List.flatten [hostOps0]) (fun b => m (c, b)) main_v1 = _
    simp only [hostOps0, List.flatten_cons, List.flatten_nil, List.append_nil]
    after_results
    rfl
  rw [h]
  exact ws_cast _ n j

theorem V_main_v2 (n : Fin 5) (j : Fin 128) : V m c main_v2 (ix2 n j) = (m ((c : Thread nD τ).loc main_arg5) : WScales) (ix1 (col n j)) := by
  have h : V m c main_v2 = shapeCast S5x128 (m ((c : Thread nD τ).loc main_arg5)) shapeCasts_S640_S5x128 := by
    show StableHlo.after (List.flatten [hostOps0]) (fun b => m (c, b)) main_v2 = _
    simp only [hostOps0, List.flatten_cons, List.flatten_nil, List.append_nil]
    after_results
    rfl
  rw [h]
  exact ws_cast _ n j

theorem V_main_v3 (n : Fin 5) (j : Fin 128) : V m c main_v3 (ix2 n j) = (m ((c : Thread nD τ).loc main_arg7) : WScales) (ix1 (col n j)) := by
  have h : V m c main_v3 = shapeCast S5x128 (m ((c : Thread nD τ).loc main_arg7)) shapeCasts_S640_S5x128 := by
    show StableHlo.after (List.flatten [hostOps0]) (fun b => m (c, b)) main_v3 = _
    simp only [hostOps0, List.flatten_cons, List.flatten_nil, List.append_nil]
    after_results
    rfl
  rw [h]
  exact ws_cast _ n j

theorem V_main_v4 (j : Fin 128) : V m c main_v4 (ix2 0 j) = (m ((c : Thread nD τ).loc main_arg8) : HGain) (ix1 j) := by
  have h : V m c main_v4 = shapeCast S1x128 (m ((c : Thread nD τ).loc main_arg8)) shapeCasts_S128_S1x128 := by
    show StableHlo.after (List.flatten [hostOps0]) (fun b => m (c, b)) main_v4 = _
    simp only [hostOps0, List.flatten_cons, List.flatten_nil, List.append_nil]
    after_results
    rfl
  rw [h]
  exact hg_cast _ j

theorem V_main_v5 (j : Fin 128) : V m c main_v5 (ix2 0 j) = (m ((c : Thread nD τ).loc main_arg9) : HGain) (ix1 j) := by
  have h : V m c main_v5 = shapeCast S1x128 (m ((c : Thread nD τ).loc main_arg9)) shapeCasts_S128_S1x128 := by
    show StableHlo.after (List.flatten [hostOps0]) (fun b => m (c, b)) main_v5 = _
    simp only [hostOps0, List.flatten_cons, List.flatten_nil, List.append_nil]
    after_results
    rfl
  rw [h]
  exact hg_cast _ j

/-- Reading an array of tokens by its own coordinates changes nothing. -/
theorem codes_self (f : Tokens) : (fun y : S3x1024x5120.Idx => f (ix3 (y 0) (y 1) (y 2))) = f := by
  funext y
  exact congrArg f (by funext a; fin_cases a <;> rfl)

/-! ## After the grid -/

/-- The arguments of the claim, named. -/
abbrev kx : Tokens := m ((c : Thread nD τ).loc main_arg0)
abbrev kg : Gain := m ((c : Thread nD τ).loc main_arg1)

theorem swap_norm (f : Heads) : transpose S3x1024x5x128 [0, 2, 1, 3] (fun y : S3x5x1024x128.Idx => f (ix4 (y 0) (y 2) (y 1) (y 3)))
    transposes_S3x5x1024x128_S3x1024x5x128_0_2_1_3 = f := by
  funext y
  have hy : y = ix4 (n0 := 3) (n1 := 1024) (n2 := 5) (n3 := 128) (y 0) (y 1) (y 2) (y 3) := by
    funext a; fin_cases a <;> rfl
  rw [hy]
  generalize (y 0 : Fin 3) = a
  generalize (y 1 : Fin 1024) = b
  generalize (y 2 : Fin 5) = n
  generalize (y 3 : Fin 128) = l
  pointwise

theorem swap_scale (f : Scales) : transpose S3x1024x1 [0, 2, 1] (fun y : S3x1x1024.Idx => f (ix3 (y 0) (y 2) 0))
    transposes_S3x1x1024_S3x1024x1_0_2_1 = f := by
  funext y
  have hy : y = ix3 (n0 := 3) (n1 := 1024) (n2 := 1) (y 0) (y 1) 0 := by
    funext a; fin_cases a
    · rfl
    · rfl
    · exact Subsingleton.elim (α := Fin 1) _ _
  rw [hy]
  generalize (y 0 : Fin 3) = a
  generalize (y 1 : Fin 1024) = b
  pointwise

/-- Result buffer `main_v7`. -/
theorem main_v7_eq : Pipeline.afterTail₀ cfgs (dats m) 0 (V0 m) [hostOps1] c main_v7
    = normOf codeK scaleK (kx m c) (kg m c) (m ((c : Thread nD τ).loc main_arg2) : Weights) (m ((c : Thread nD τ).loc main_arg3) : WScales) (m ((c : Thread nD τ).loc main_arg8) : HGain) := by
  unfold Pipeline.afterTail₀
  simp only [hostOps1, List.flatten_cons, List.flatten_nil, List.append_nil]
  after_results
  refine (congrArg (fun A => transpose S3x1024x5x128 [0, 2, 1, 3] A transposes_S3x5x1024x128_S3x1024x5x128_0_2_1_3)
    ((Pipeline.withArrays_arr spec0 launch0.win.arr_inj c (V0 m c) _ 10).trans (arr_10 (V_main_arg0 m c) (V_gain m c) (V_main_arg2 m c) (V_main_v1 m c) (V_main_v4 m c)))).trans ?_
  exact swap_norm _

/-- Result buffer `main_v8`. -/
theorem main_v8_eq : Pipeline.afterTail₀ cfgs (dats m) 0 (V0 m) [hostOps1] c main_v8
    = normOf codeK scaleK (kx m c) (kg m c) (m ((c : Thread nD τ).loc main_arg4) : Weights) (m ((c : Thread nD τ).loc main_arg5) : WScales) (m ((c : Thread nD τ).loc main_arg9) : HGain) := by
  unfold Pipeline.afterTail₀
  simp only [hostOps1, List.flatten_cons, List.flatten_nil, List.append_nil]
  after_results
  refine (congrArg (fun A => transpose S3x1024x5x128 [0, 2, 1, 3] A transposes_S3x5x1024x128_S3x1024x5x128_0_2_1_3)
    ((Pipeline.withArrays_arr spec0 launch0.win.arr_inj c (V0 m c) _ 11).trans (arr_11 (V_main_arg0 m c) (V_gain m c) (V_main_arg4 m c) (V_main_v2 m c) (V_main_v5 m c)))).trans ?_
  exact swap_norm _

/-- Result buffer `main_v9`. -/
theorem main_v9_eq : Pipeline.afterTail₀ cfgs (dats m) 0 (V0 m) [hostOps1] c main_v9
    = plainOf codeK scaleK (kx m c) (kg m c) (m ((c : Thread nD τ).loc main_arg6) : Weights) (m ((c : Thread nD τ).loc main_arg7) : WScales) := by
  unfold Pipeline.afterTail₀
  simp only [hostOps1, List.flatten_cons, List.flatten_nil, List.append_nil]
  after_results
  refine (congrArg (fun A => transpose S3x1024x5x128 [0, 2, 1, 3] A transposes_S3x5x1024x128_S3x1024x5x128_0_2_1_3)
    ((Pipeline.withArrays_arr spec0 launch0.win.arr_inj c (V0 m c) _ 12).trans (arr_12 (V_main_arg0 m c) (V_gain m c) (V_main_arg6 m c) (V_main_v3 m c)))).trans ?_
  exact swap_norm _

/-- Result buffer `main_v10`. -/
theorem main_v10_eq : Pipeline.afterTail₀ cfgs (dats m) 0 (V0 m) [hostOps1] c main_v10
    = scalesOf scaleK (kx m c) (kg m c) := by
  unfold Pipeline.afterTail₀
  simp only [hostOps1, List.flatten_cons, List.flatten_nil, List.append_nil]
  after_results
  refine (congrArg (fun A => transpose S3x1024x1 [0, 2, 1] A transposes_S3x1x1024_S3x1024x1_0_2_1)
    ((Pipeline.withArrays_arr spec0 launch0.win.arr_inj c (V0 m c) _ 14).trans (arr_14 (V_main_arg0 m c) (V_gain m c)))).trans ?_
  exact swap_scale _

/-- **What the kernel computes**: its five results, as functions of its ten arguments, which it leaves unchanged. -/
theorem kernel_value (ρ : Dev nD → PrngReg) : θ_run defs (onTc (τ := τ) (main (F := Ideal))) ⟨m, fun _ => 0, ρ⟩ (fun r => ∀ c : Dev nD,
    (r.2.mem ((c : Thread nD τ).loc main_v7) = normOf codeK scaleK (kx m c) (kg m c) (m ((c : Thread nD τ).loc main_arg2) : Weights) (m ((c : Thread nD τ).loc main_arg3) : WScales) (m ((c : Thread nD τ).loc main_arg8) : HGain)
      ∧ r.2.mem ((c : Thread nD τ).loc main_v8) = normOf codeK scaleK (kx m c) (kg m c) (m ((c : Thread nD τ).loc main_arg4) : Weights) (m ((c : Thread nD τ).loc main_arg5) : WScales) (m ((c : Thread nD τ).loc main_arg9) : HGain)
      ∧ r.2.mem ((c : Thread nD τ).loc main_v9) = plainOf codeK scaleK (kx m c) (kg m c) (m ((c : Thread nD τ).loc main_arg6) : Weights) (m ((c : Thread nD τ).loc main_arg7) : WScales)
      ∧ r.2.mem ((c : Thread nD τ).loc main_v6_3) = codesOf codeK (kx m c) (kg m c)
      ∧ r.2.mem ((c : Thread nD τ).loc main_v10) = scalesOf scaleK (kx m c) (kg m c))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨⟨
    ((h.1 c).2 main_v7 (Pipeline.mem_restRefs_of main_v7 (by decide) (by decide))).trans (main_v7_eq m c),
    ((h.1 c).2 main_v8 (Pipeline.mem_restRefs_of main_v8 (by decide) (by decide))).trans (main_v8_eq m c),
    ((h.1 c).2 main_v9 (Pipeline.mem_restRefs_of main_v9 (by decide) (by decide))).trans (main_v9_eq m c),
    ((h.1 c).1 13).trans ((arr_13 (V_main_arg0 m c) (V_gain m c)).trans (codes_self _)),
    ((h.1 c).2 main_v10 (Pipeline.mem_restRefs_of main_v10 (by decide) (by decide))).trans (main_v10_eq m c)⟩, h.2 c⟩)
    (θ_run_and (run_main m ρ) (unchanged m ρ))

end Cert.Proof
-- ==== Proof.RefWords.lean ====
/-
  The reference's arrays read at an index: the normalised row, the exponent, the scale, the codes, the projections and
  the normalised heads are those of each token's row.
-/
module

public import proofs.«01_k».proof.Proof.Gen.ReferenceIdeal.Skeleton
public import proofs.«01_k».proof.Proof.Spec

@[expose] public section

set_option maxRecDepth 16384

noncomputable section

namespace Cert.Proof

open Idealize.ShloMosaic Idealize.ShloMosaic.TcCoe Idealize.SL.Sem
open Cert.ReferenceIdeal Cert.ReferenceIdeal.Gen

variable (X : Vec Ideal S3x1024x5120 .bf16) (G : Vec Ideal S5120 .bf16)

/-- The normalised row. -/
theorem ref_norm (b : Fin 3) (s : Fin 1024) (q : Fin 5120) :
    k0_pay3 X G (ix3 b s q) = normR (tokenRow X b s) (gainRow G) q := by
  pointwise [k0_pay3]
  rfl

/-- The largest magnitudes of the rows of an array. -/
theorem ref_largest (A : FVec Ideal S3x1024x5120 .f32) (hφ : FKind.Formats .f32) (hacc : 0xFF800000#32 = FKind.maximumf.neutral .f32 hφ)
    (b : Fin 3) (s : Fin 1024) :
    multiReduction .maximumf [2] S3x1024 A 0xFF800000#32 reduces_S3x1024x5120_S3x1024 hφ hacc (ix2 b s) = largest fun q => A (ix3 b s q) := by
  have hb : Ideal.ofBits .f32 0xFF800000#32 = ⊥ := by simp [Ideal.ofBits, Ideal.ieee]
  rw [multiReduction_maximumf_eq_fold, Shape.Reduces.fold_fiber_r3_a2]
  show Finset.fold max (Ideal.ofBits .f32 0xFF800000#32) _ _ = _
  rw [hb]
  rfl

/-- The exponent's words from the rows' largest magnitudes. -/
theorem ref_expo_of (M : FVec Ideal S3x1024 .f32) (R : FVec Ideal S3x1024x5120 .f32) (hR : k0_pay3 X G = R)
    (hM : multiReduction .maximumf [2] S3x1024 (absf R) 0xFF800000#32 reduces_S3x1024x5120_S3x1024 (.inl rfl) rfl = M)
    (b : Fin 3) (s : Fin 1024) : k0_pay4 X G (ix3 b s 0) = expo (M (ix2 b s)) (M (ix2 b s) * over448) := by
  have h2 : Ideal.ofBits .f32 0x40000000#32 = 2 := by
    simp [Ideal.ofBits, Ideal.ieee, -EReal.coe_mul]
    norm_num
    rfl
  unfold k0_pay4
  dsimp only
  rw [hR, hM]
  clear hR hM
  pointwise
  rw [h2]
  rfl

/-- The code at a lane from the normalised rows and the exponents. -/
theorem ref_code_of (R : FVec Ideal S3x1024x5120 .f32) (E : FVec Ideal S3x1024x1 .f32) (hR : k0_pay3 X G = R) (hE : k0_pay4 X G = E)
    (b : Fin 3) (s : Fin 1024) (q : Fin 5120) :
    k0_pay6 X G (ix3 b s q) = clipE (R (ix3 b s q) * Ideal.exp2 (0 - E (ix3 b s 0))) := by
  unfold k0_pay6
  rw [hR, hE]
  clear hR hE
  rw [← Ideal.ofBits_zero .f32]
  pointwise
  rfl

/-- The scale from the exponents. -/
theorem ref_scale_of (E : FVec Ideal S3x1024x1 .f32) (hE : k0_pay4 X G = E)
    (b : Fin 3) (s : Fin 1024) : k0_pay5 X G (ix3 b s 0) = Ideal.exp2 (E (ix3 b s 0)) := by
  unfold k0_pay5
  rw [hE]
  rfl

variable (S : FVec Ideal S3x1024x1 .f32) (C : FVec Ideal S3x1024x5120 .fp8e4m3)
  (W : Vec Ideal S640x5120 .fp8e4m3) (w : Vec Ideal S640 .f32)

/-- A projection. -/
theorem ref_proj (b : Fin 3) (s : Fin 1024) (n : Fin 5) (j : Fin 128) : k0_pay7 S C W w (ix4 b s n j)
    = projE (fun q => C (ix3 b s q)) (S (ix3 b s 0)) (fun q => W (ix2 (col n j) q)) (w (ix1 (col n j))) := by
  have hc : ∀ h, (⟨n.val * 128 + j.val, h⟩ : Fin 640) = col n j := fun h => Fin.ext (by show n.val * 128 + j.val = 128 * n.val + j.val; omega)
  unfold projE
  pointwise [k0_pay7]
  simp only [hc]

/-- A normalised head. -/
theorem ref_head (P : FVec Ideal S3x1024x5x128 .f32) (gn : Vec Ideal S128 .bf16) (b : Fin 3) (s : Fin 1024) (n : Fin 5) (j : Fin 128) :
    k0_pay1 P gn (ix4 b s n j) = headE (fun l => P (ix4 b s n l)) (fun l => gn (ix1 l)) j := by
  pointwise [k0_pay1]
  rfl

/-- The second projection is the same word. -/
theorem ref_proj_v : k0_pay8 S C W w = k0_pay7 S C W w := rfl

/-- The first result's word is the second's on its own projection. -/
theorem ref_head_q (gn : Vec Ideal S128 .bf16) : k0_pay9 S C W w gn = k0_pay1 (k0_pay7 S C W w) gn := rfl

end Cert.Proof
-- ==== Proof.RefRows.lean ====
/-
  The reference's exponents, codes and scales are those of each token's row.
-/
module

public import proofs.«01_k».proof.Proof.RefWords

@[expose] public section

set_option maxRecDepth 16384

noncomputable section

namespace Cert.Proof

open Idealize.ShloMosaic Idealize.ShloMosaic.TcCoe Idealize.SL.Sem
open Cert.ReferenceIdeal Cert.ReferenceIdeal.Gen

variable (X : Vec Ideal S3x1024x5120 .bf16) (G : Vec Ideal S5120 .bf16)

/-- The largest magnitudes of an array's rows, as a function. -/
theorem ref_largest_fun (A : FVec Ideal S3x1024x5120 .f32) (hφ : FKind.Formats .f32) (hacc : 0xFF800000#32 = FKind.maximumf.neutral .f32 hφ) :
    multiReduction .maximumf [2] S3x1024 A 0xFF800000#32 reduces_S3x1024x5120_S3x1024 hφ hacc
      = fun y => largest fun q => A (ix3 (y 0) (y 1) q) := by
  funext y
  have hy : y = ix2 (n0 := 3) (n1 := 1024) (y 0) (y 1) := by
    funext a; fin_cases a <;> rfl
  rw [hy]
  exact ref_largest A hφ hacc (y 0) (y 1)

/-- The exponent. -/
theorem ref_expo (b : Fin 3) (s : Fin 1024) : k0_pay4 X G (ix3 b s 0) = expoR (tokenRow X b s) (gainRow G) := by
  have h : largest (fun q => absf (k0_pay3 X G) (ix3 b s q)) = amaxR (tokenRow X b s) (gainRow G) :=
    congrArg largest (funext fun q => congrArg mag (ref_norm X G b s q))
  have e := ref_expo_of X G _ (k0_pay3 X G) rfl (ref_largest_fun (absf (k0_pay3 X G)) _ _) b s
  rw [e]
  unfold expoR
  rw [← h]
  rfl

/-- The code at a lane. -/
theorem ref_code (b : Fin 3) (s : Fin 1024) (q : Fin 5120) :
    k0_pay6 X G (ix3 b s q) = codeR (tokenRow X b s) (gainRow G) q := by
  rw [ref_code_of X G (k0_pay3 X G) (k0_pay4 X G) rfl rfl b s q, ref_norm, ref_expo]
  unfold codeR
  rfl

/-- The scale. -/
theorem ref_scale (b : Fin 3) (s : Fin 1024) : k0_pay5 X G (ix3 b s 0) = scaleR (tokenRow X b s) (gainRow G) := by
  rw [ref_scale_of X G (k0_pay4 X G) rfl b s, ref_expo]
  unfold scaleR
  rfl

end Cert.Proof
-- ==== Proof.RefArrays.lean ====
/-
  The five arrays the reference leaves, as functions of its arguments.
-/
module

public import proofs.«01_k».proof.Proof.Gen.ReferenceIdeal.Frame
public import Idealize.ShloMosaic.Lib.Pipeline.ValueKit
public import proofs.«01_k».proof.Proof.RefRows

@[expose] public section

set_option maxRecDepth 16384

noncomputable section

namespace Cert.Proof.Ref

open Idealize.ShloMosaic Idealize.ShloMosaic.TcCoe Idealize.SL.Sem
open Cert.ReferenceIdeal Cert.ReferenceIdeal.Gen

/-! ## The words of the five stores -/

section
variable (X : Vec Ideal S3x1024x5120 .bf16) (G : Vec Ideal S5120 .bf16)
  (W : Vec Ideal S640x5120 .fp8e4m3) (w : Vec Ideal S640 .f32) (gn : Vec Ideal S128 .bf16)

/-- A projection on the reference's codes and scales. -/
theorem ref_projOf (b : Fin 3) (s : Fin 1024) (n : Fin 5) (j : Fin 128) :
    k0_pay7 (k0_pay5 X G) (k0_pay6 X G) W w (ix4 b s n j) = projOf codeR scaleR X G W w b s n j := by
  rw [ref_proj, ref_scale]
  unfold projOf
  rw [show (fun q => k0_pay6 X G (ix3 b s q)) = codeR (tokenRow X b s) (gainRow G) from funext fun q => ref_code X G b s q]

/-- The normalised heads. -/
theorem ref_normOf : k0_pay1 (k0_pay7 (k0_pay5 X G) (k0_pay6 X G) W w) gn = normOf codeR scaleR X G W w gn := by
  funext y
  obtain ⟨a, b, n, l, rfl⟩ : ∃ (a : Fin 3) (b : Fin 1024) (n : Fin 5) (l : Fin 128), y = ix4 a b n l :=
    ⟨y 0, y 1, y 2, y 3, by funext a; fin_cases a <;> rfl⟩
  have h : (fun j => k0_pay7 (k0_pay5 X G) (k0_pay6 X G) W w (ix4 a b n j)) = projOf codeR scaleR X G W w a b n :=
    funext fun j => ref_projOf X G W w a b n j
  rw [ref_head, h]
  unfold normOf
  rfl

/-- The plain heads. -/
theorem ref_plainOf : k0_pay2 (k0_pay8 (k0_pay5 X G) (k0_pay6 X G) W w) = plainOf codeR scaleR X G W w := by
  funext y
  obtain ⟨a, b, n, l, rfl⟩ : ∃ (a : Fin 3) (b : Fin 1024) (n : Fin 5) (l : Fin 128), y = ix4 a b n l :=
    ⟨y 0, y 1, y 2, y 3, by funext a; fin_cases a <;> rfl⟩
  rw [ref_proj_v]
  have h2 : ∀ P : FVec Ideal S3x1024x5x128 .f32, k0_pay2 P = P := fun P => rfl
  rw [h2, ref_projOf]
  unfold plainOf
  rfl

/-- The codes. -/
theorem ref_codesOf : k0_pay6 X G = codesOf codeR X G := by
  funext y
  obtain ⟨a, b, q, rfl⟩ : ∃ (a : Fin 3) (b : Fin 1024) (q : Fin 5120), y = ix3 a b q :=
    ⟨y 0, y 1, y 2, by funext a; fin_cases a <;> rfl⟩
  rw [ref_code]
  unfold codesOf
  rfl

/-- The scales. -/
theorem ref_scalesOf : k0_pay5 X G = scalesOf scaleR X G := by
  funext y
  obtain ⟨a, b, rfl⟩ : ∃ (a : Fin 3) (b : Fin 1024), y = ix3 a b (0 : Fin 1) :=
    ⟨y 0, y 1, by
      funext a; fin_cases a
      · rfl
      · rfl
      · exact Subsingleton.elim (α := Fin 1) _ _⟩
  rw [ref_scale]
  unfold scalesOf
  rfl

end

/-! ## The staging buffers after the body -/

section
variable (x0 : Vec Ideal S3x1024x5120 .bf16) (x1 : Vec Ideal S5120 .bf16) (x2 : Vec Ideal S640x5120 .fp8e4m3) (x3 : Vec Ideal S640 .f32)
  (x4 : Vec Ideal S640x5120 .fp8e4m3) (x5 : Vec Ideal S640 .f32) (x6 : Vec Ideal S640x5120 .fp8e4m3) (x7 : Vec Ideal S640 .f32)
  (x8 : Vec Ideal S128 .bf16) (x9 : Vec Ideal S128 .bf16)

theorem ld_0 : View.ld x0 r0_0 = x0 := View.ld_unit_lit _ _ (by decide)
theorem ld_1 : View.ld x1 r0_1 = x1 := View.ld_unit_lit _ _ (by decide)
theorem ld_2 : View.ld x2 r0_2 = x2 := View.ld_unit_lit _ _ (by decide)
theorem ld_3 : View.ld x3 r0_3 = x3 := View.ld_unit_lit _ _ (by decide)
theorem ld_4 : View.ld x8 r0_4 = x8 := View.ld_unit_lit _ _ (by decide)

theorem out_10 : out0_10 x0 x1 x2 x3 x4 x5 x6 x7 x8 x9 = normOf codeR scaleR x0 x1 x2 x3 x8 := by
  unfold out0_10 k0_pay10 k0_pay11
  rw [ld_0, ld_1, ld_2, ld_3, ld_4, ref_head_q, ref_normOf]
  exact View.canon_cons_unit_lit _ _ _ (by decide)

theorem out_11 : out0_11 x0 x1 x2 x3 x4 x5 x6 x7 x8 x9 = normOf codeR scaleR x0 x1 x4 x5 x9 := by
  unfold out0_11 k0_pay10 k0_pay11
  rw [ld_0, ld_1, ld_2, ld_3, ld_4, ref_normOf]
  exact View.canon_cons_unit_lit _ _ _ (by decide)

theorem out_12 : out0_12 x0 x1 x2 x3 x4 x5 x6 x7 x8 x9 = plainOf codeR scaleR x0 x1 x6 x7 := by
  unfold out0_12 k0_pay10 k0_pay11
  rw [ld_0, ld_1, ld_2, ld_3, ref_plainOf]
  exact View.canon_cons_unit_lit _ _ _ (by decide)

theorem out_13 : out0_13 x0 x1 x2 x3 x4 x5 x6 x7 x8 x9 = codesOf codeR x0 x1 := by
  unfold out0_13 k0_pay11
  rw [ld_0, ld_1, ref_codesOf]
  exact View.canon_cons_unit_lit _ _ _ (by decide)

theorem out_14 : out0_14 x0 x1 x2 x3 x4 x5 x6 x7 x8 x9 = scalesOf scaleR x0 x1 := by
  unfold out0_14 k0_pay10
  rw [ld_0, ld_1, ref_scalesOf]
  exact View.canon_cons_unit_lit _ _ _ (by decide)

end

/-! ## The blocks -/

theorem ix_0 : ∀ t : Fin cfg0.N, win0_0.index t = ![0, 0, 0] := (by decide +kernel : ∀ t : Fin grid0.N, _)
theorem ix_1 : ∀ t : Fin cfg0.N, win0_1.index t = ![0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0] := (by decide +kernel : ∀ t : Fin grid0.N, _)
theorem ix_8 : ∀ t : Fin cfg0.N, win0_8.index t = ![0] := (by decide +kernel : ∀ t : Fin grid0.N, _)
theorem ix_9 : ∀ t : Fin cfg0.N, win0_9.index t = ![0] := (by decide +kernel : ∀ t : Fin grid0.N, _)
theorem ix_10 : ∀ t : Fin cfg0.N, win0_10.index t = ![0, 0, 0, 0] := (by decide +kernel : ∀ t : Fin grid0.N, _)
theorem ix_11 : ∀ t : Fin cfg0.N, win0_11.index t = ![0, 0, 0, 0] := (by decide +kernel : ∀ t : Fin grid0.N, _)
theorem ix_12 : ∀ t : Fin cfg0.N, win0_12.index t = ![0, 0, 0, 0] := (by decide +kernel : ∀ t : Fin grid0.N, _)
theorem ix_13 : ∀ t : Fin cfg0.N, win0_13.index t = ![0, 0, 0] := (by decide +kernel : ∀ t : Fin grid0.N, _)
theorem ix_14 : ∀ t : Fin cfg0.N, win0_14.index t = ![0, 0, 0] := (by decide +kernel : ∀ t : Fin grid0.N, _)

variable (m : (ℓ : Loc nD τ sig) → Buf (Elt Ideal) ℓ) (c : Dev nD)

theorem whole_0 (t : Fin cfg0.N) : iblk m c 0 t = V m c main_arg0 := by funext y; blk_ext [iblk, ix_0]
theorem whole_1 (t : Fin cfg0.N) : iblk m c 1 t = V m c main_arg1 := by funext y; blk_ext [iblk, ix_1]
theorem whole_2 (t : Fin cfg0.N) : iblk m c 2 t = V m c main_arg2 := by funext y; blk_ext [iblk, ix_2]
theorem whole_3 (t : Fin cfg0.N) : iblk m c 3 t = V m c main_arg3 := by funext y; blk_ext [iblk, ix_3]
theorem whole_4 (t : Fin cfg0.N) : iblk m c 4 t = V m c main_arg4 := by funext y; blk_ext [iblk, ix_4]
theorem whole_5 (t : Fin cfg0.N) : iblk m c 5 t = V m c main_arg5 := by funext y; blk_ext [iblk, ix_5]
theorem whole_6 (t : Fin cfg0.N) : iblk m c 6 t = V m c main_arg6 := by funext y; blk_ext [iblk, ix_6]
theorem whole_7 (t : Fin cfg0.N) : iblk m c 7 t = V m c main_arg7 := by funext y; blk_ext [iblk, ix_7]
theorem whole_8 (t : Fin cfg0.N) : iblk m c 8 t = V m c main_arg8 := by funext y; blk_ext [iblk, ix_8]
theorem whole_9 (t : Fin cfg0.N) : iblk m c 9 t = V m c main_arg9 := by funext y; blk_ext [iblk, ix_9]

/-! ## The arrays -/

theorem arr_10 : (dats m 0 c).arrAt 10 cfg0.N = out0_10 (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 10 _ (by decide +kernel) fun t hf y => ?_
  blk_simp
  rw [after0_10]
  rw [whole_0, whole_1, whole_2, whole_3, whole_4, whole_5, whole_6, whole_7, whole_8, whole_9]
  generalize out0_10 (V m c main_arg0) (V m c main_arg1) (V m c main_arg2) (V m c main_arg3) (V m c main_arg4) (V m c main_arg5) (V m c main_arg6) (V m c main_arg7) (V m c main_arg8) (V m c main_arg9) = f
  refine congrArg f (funext fun a => Fin.ext ?_)
  fin_cases a
  all_goals blk_simp [ix_10]

theorem arr_11 : (dats m 0 c).arrAt 11 cfg0.N = out0_11 (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 11 _ (by decide +kernel) fun t hf y => ?_
  blk_simp
  rw [after0_11]
  rw [whole_0, whole_1, whole_2, whole_3, whole_4, whole_5, whole_6, whole_7, whole_8, whole_9]
  generalize out0_11 (V m c main_arg0) (V m c main_arg1) (V m c main_arg2) (V m c main_arg3) (V m c main_arg4) (V m c main_arg5) (V m c main_arg6) (V m c main_arg7) (V m c main_arg8) (V m c main_arg9) = f
  refine congrArg f (funext fun a => Fin.ext ?_)
  fin_cases a
  all_goals blk_simp [ix_11]

theorem arr_12 : (dats m 0 c).arrAt 12 cfg0.N = out0_12 (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 12 _ (by decide +kernel) fun t hf y => ?_
  blk_simp
  rw [after0_12]
  rw [whole_0, whole_1, whole_2, whole_3, whole_4, whole_5, whole_6, whole_7, whole_8, whole_9]
  generalize out0_12 (V m c main_arg0) (V m c main_arg1) (V m c main_arg2) (V m c main_arg3) (V m c main_arg4) (V m c main_arg5) (V m c main_arg6) (V m c main_arg7) (V m c main_arg8) (V m c main_arg9) = f
  refine congrArg f (funext fun a => Fin.ext ?_)
  fin_cases a
  all_goals blk_simp [ix_12]

theorem arr_13 : (dats m 0 c).arrAt 13 cfg0.N = out0_13 (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 13 _ (by decide +kernel) fun t hf y => ?_
  blk_simp
  rw [after0_13]
  rw [whole_0, whole_1, whole_2, whole_3, whole_4, whole_5, whole_6, whole_7, whole_8, whole_9]
  generalize out0_13 (V m c main_arg0) (V m c main_arg1) (V m c main_arg2) (V m c main_arg3) (V m c main_arg4) (V m c main_arg5) (V m c main_arg6) (V m c main_arg7) (V m c main_arg8) (V m c main_arg9) = f
  refine congrArg f (funext fun a => Fin.ext ?_)
  fin_cases a
  all_goals blk_simp [ix_13]

theorem arr_14 : (dats m 0 c).arrAt 14 cfg0.N = out0_14 (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 14 _ (by decide +kernel) fun t hf y => ?_
  blk_simp
  rw [after0_14]
  rw [whole_0, whole_1, whole_2, whole_3, whole_4, whole_5, whole_6, whole_7, whole_8, whole_9]
  generalize out0_14 (V m c main_arg0) (V m c main_arg1) (V m c main_arg2) (V m c main_arg3) (V m c main_arg4) (V m c main_arg5) (V m c main_arg6) (V m c main_arg7) (V m c main_arg8) (V m c main_arg9) = f
  refine congrArg f (funext fun a => Fin.ext ?_)
  fin_cases a
  all_goals blk_simp [ix_14]

/-- The reference runs and ends with its five results as these functions of its arguments, which end unchanged. -/
theorem reference_value (ρ : Dev nD → PrngReg) : θ_run defs (onTc (τ := τ) (main (F := Ideal))) ⟨m, fun _ => 0, ρ⟩ (fun r => ∀ c : Dev nD,
    (r.2.mem ((c : Thread nD τ).loc main_v0_0) = normOf codeR scaleR (m ((c : Thread nD τ).loc main_arg0) : Tokens) (m ((c : Thread nD τ).loc main_arg1) : Gain) (m ((c : Thread nD τ).loc main_arg2) : Weights) (m ((c : Thread nD τ).loc main_arg3) : WScales) (m ((c : Thread nD τ).loc main_arg8) : HGain)
      ∧ r.2.mem ((c : Thread nD τ).loc main_v0_1) = normOf codeR scaleR (m ((c : Thread nD τ).loc main_arg0) : Tokens) (m ((c : Thread nD τ).loc main_arg1) : Gain) (m ((c : Thread nD τ).loc main_arg4) : Weights) (m ((c : Thread nD τ).loc main_arg5) : WScales) (m ((c : Thread nD τ).loc main_arg9) : HGain)
      ∧ r.2.mem ((c : Thread nD τ).loc main_v0_2) = plainOf codeR scaleR (m ((c : Thread nD τ).loc main_arg0) : Tokens) (m ((c : Thread nD τ).loc main_arg1) : Gain) (m ((c : Thread nD τ).loc main_arg6) : Weights) (m ((c : Thread nD τ).loc main_arg7) : WScales)
      ∧ r.2.mem ((c : Thread nD τ).loc main_v0_3) = codesOf codeR (m ((c : Thread nD τ).loc main_arg0) : Tokens) (m ((c : Thread nD τ).loc main_arg1) : Gain)
      ∧ r.2.mem ((c : Thread nD τ).loc main_v0_4) = scalesOf scaleR (m ((c : Thread nD τ).loc main_arg0) : Tokens) (m ((c : Thread nD τ).loc main_arg1) : Gain))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨⟨((h.1 c).1 10).trans ((arr_10 m c).trans (out_10 _ _ _ _ _ _ _ _ _ _)),
    ((h.1 c).1 11).trans ((arr_11 m c).trans (out_11 _ _ _ _ _ _ _ _ _ _)),
    ((h.1 c).1 12).trans ((arr_12 m c).trans (out_12 _ _ _ _ _ _ _ _ _ _)),
    ((h.1 c).1 13).trans ((arr_13 m c).trans (out_13 _ _ _ _ _ _ _ _ _ _)),
    ((h.1 c).1 14).trans ((arr_14 m c).trans (out_14 _ _ _ _ _ _ _ _ _ _))⟩, h.2 c⟩)
    (θ_run_and (run_main m ρ) (unchanged m ρ))

end Cert.Proof.Ref
-- ==== Proof.PreRange.lean ====
/-
  The precondition, read as what the proof asks of the tokens' rows.
-/
module

public import proofs.«01_k».proof.Defs
public import proofs.«01_k».proof.Proof.Gen.Pre_scales_in_range
public import Idealize.ShloMosaic.Lib.Pipeline.ValueKit
public import proofs.«01_k».proof.Proof.Spec

@[expose] public section

set_option maxRecDepth 16384

noncomputable section

namespace Cert.Proof.Pre

open Idealize.ShloMosaic Idealize.ShloMosaic.TcCoe Idealize.SL.Sem
open Cert.Pre_scales_in_range Cert.Pre_scales_in_range.Gen

/-- The normalised rows the predicate takes the largest magnitudes of. -/
def normed (X : FVec Ideal S3x1024x5120 .bf16) (G : FVec Ideal S5120 .bf16) : FVec Ideal S3x1024x5120 .f32 :=
  mulf (mulf (extf .f32 X bitsLt_bf16_f32) (broadcastInDim S3x1024x5120 ![0, 1, 2] bcast_S3x1024x1_S3x1024x5120_0_1_2
    (Host.rsqrt (addf (Host.divf (broadcastInDim S3x1024x1 ![0, 1] bcast_S3x1024_S3x1024x1_0_1
      (Host.reduceAdd (mulf (extf .f32 X bitsLt_bf16_f32) (extf .f32 X bitsLt_bf16_f32)) (constant S_ .f32 0x00000000#32)
        reducesTo_S3x1024x5120_S3x1024_d2 h_S_))
      (broadcastInDim S3x1024x1 ![] bcast_S_S3x1024x1 (constant S_ .f32 0x45A00000#32)))
      (broadcastInDim S3x1024x1 ![] bcast_S_S3x1024x1 (constant S_ .f32 0x358637BD#32))))))
    (broadcastInDim S3x1024x5120 ![0, 1, 2] bcast_S1x1x5120_S3x1024x5120_0_1_2
      (broadcastInDim S1x1x5120 ![2] bcast_S5120_S1x1x5120_2 (extf .f32 G bitsLt_bf16_f32)))

/-- The largest magnitudes of an array's rows. -/
def tops (A : FVec Ideal S3x1024x5120 .f32) : FVec Ideal S3x1024 .f32 :=
  Host.reduce FloatOps.maximumf (Host.absf A) (constant S_ .f32 0xFF800000#32) reducesTo_S3x1024x5120_S3x1024_d2 h_S_

/-- The constant 1/448 at every token. -/
def over : FVec Ideal S3x1024x1 .f32 := broadcastInDim S3x1024x1 ![] bcast_S_S3x1024x1 (constant S_ .f32 0x3B124925#32)

theorem normed_at (X : FVec Ideal S3x1024x5120 .bf16) (G : FVec Ideal S5120 .bf16) (b : Fin 3) (s : Fin 1024) (q : Fin 5120) :
    normed X G (ix3 b s q) = normR (tokenRow X b s) (gainRow G) q := by
  pointwise [normed]
  rfl

theorem tops_at (A : FVec Ideal S3x1024x5120 .f32) (b : Fin 3) (s : Fin 1024) : tops A (ix2 b s) = largest fun q => mag (A (ix3 b s q)) := by
  have hb : Ideal.ofBits .f32 0xFF800000#32 = ⊥ := by simp [Ideal.ofBits, Ideal.ieee]
  unfold tops
  rw [Host.reduce_eq_fold, Shape.ReducesTo.fold_fiber_r3_a2]
  show Finset.fold max (Ideal.ofBits .f32 0xFF800000#32) _ _ = _
  rw [hb]
  rfl

/-- The predicate's word at a token, read as a proposition. -/
theorem inRange_of_bits (a y : EReal)
    (h : IntOp.ori (Ideal.cmp .oeq a 0) (IntOp.andi (Ideal.cmp .oge y (pw 1)) (Ideal.cmp .olt y (pw 253))) = 1#1) : InRange a y := by
  have ofBool_eq (p : Bool) : (BitVec.ofBool p = 1#1) ↔ p = true := by cases p <;> decide
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  unfold Ideal.cmp at h
  simp only [andi_ofBool, ori_ofBool, ofBool_eq, Bool.or_eq_true, Bool.and_eq_true, decide_eq_true_eq] at h
  exact h

/-- The predicate at a token, from the largest magnitude there. -/
theorem inRange_of (M : FVec Ideal S3x1024 .f32) (b : Fin 3) (s : Fin 1024)
    (h : fn_part1 (broadcastInDim S3x1024x1 ![0, 1] bcast_S3x1024_S3x1024x1_0_1 M) over (ix3 b s 0) = 1#1) :
    InRange (M (ix2 b s)) (M (ix2 b s) * over448) := by
  have e : fn_part1 (broadcastInDim S3x1024x1 ![0, 1] bcast_S3x1024_S3x1024x1_0_1 M) over (ix3 b s 0)
      = IntOp.ori (Ideal.cmp .oeq (M (ix2 b s)) (Ideal.ofBits .f32 0#32))
          (IntOp.andi (Ideal.cmp .oge (M (ix2 b s) * over448) (Ideal.ofBits .f32 0x00800000#32))
            (Ideal.cmp .olt (M (ix2 b s) * over448) (Ideal.ofBits .f32 0x7E800000#32))) := by
    pointwise [fn_part1, over]
    rfl
  rw [e] at h
  have h0 : Ideal.ofBits .f32 0#32 = 0 := pw_zero
  have h1 : Ideal.ofBits .f32 0x00800000#32 = pw 1 := rfl
  have h2 : Ideal.ofBits .f32 0x7E800000#32 = pw 253 := rfl
  rw [h0, h1, h2] at h
  exact inRange_of_bits _ _ h

/-- The predicate, all ones, says every token's row is in range. -/
theorem allInRange (X : Tokens) (G : Gain) (a2 : Weights) (a3 : WScales) (a4 : Weights) (a5 : WScales) (a6 : Weights) (a7 : WScales)
    (a8 a9 : HGain) (h : fn (F := Ideal) X G a2 a3 a4 a5 a6 a7 a8 a9 = fun _ => 1#1) : AllInRange X G := by
  intro b s
  have e : fn (F := Ideal) X G a2 a3 a4 a5 a6 a7 a8 a9
      = fn_part1 (broadcastInDim S3x1024x1 ![0, 1] bcast_S3x1024_S3x1024x1_0_1 (tops (normed X G))) over := by
    unfold fn tops over normed
    rfl
  have r := inRange_of _ b s (congrFun (e.symm.trans h) (ix3 b s 0))
  have t : tops (normed X G) (ix2 b s) = amaxR (tokenRow X b s) (gainRow G) :=
    (tops_at _ b s).trans (congrArg largest (funext fun q => congrArg mag (normed_at X G b s q)))
  rw [t] at r
  exact r

end Cert.Proof.Pre
-- ==== Proof.lean ====
/-
  The certificate of `Cert.Claim`.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Pre_scales_in_range
public import proofs.«01_k».proof.Proof.KernelValue
public import proofs.«01_k».proof.Proof.RefArrays
public import proofs.«01_k».proof.Proof.PreRange

@[expose] public section

open Idealize.ShloMosaic Idealize.ShloMosaic.TcCoe Idealize.SL.Sem

/-- The constant the idealized kernel names `inv_d` is the kernel's own word for 1/5120, and stands for 1/5120 there. -/
theorem Cert.Proof.preserves : Cert.preserves_Kernel_KernelIdeal :=
  IdealRules.named_const.statement Cert.KernelIdeal.κ "inv_d" .f32 0x394CCCCD#32 ((1 / 5120 : ℝ) : EReal) rfl

/-- Where every token's scale is in range, the idealized kernel and the idealized reference both run, leave their
    arguments as they were, and end with equal results, all five. -/
theorem Cert.Proof.algebraic : Cert.algebraic_KernelIdeal_ReferenceIdeal_pre_scales_in_range := by
  intro m ρ m' ρ' hpre hargs
  refine ⟨_, _, _, _, _,
    (θ_run _ _ _).mono (fun _ h c => ⟨(h c).1.1, (h c).1.2.1, (h c).1.2.2.1, (h c).1.2.2.2.1, (h c).1.2.2.2.2, (h c).2⟩)
      (kernel_value m ρ),
    (θ_run _ _ _).mono (fun r h c => ?_) (Ref.reference_value m' ρ')⟩
  obtain ⟨⟨r0, r1, r2, r3, r4⟩, rest⟩ := h c
  obtain ⟨h0, h1, h2, h3, h4, h5, h6, h7, h8, h9⟩ := hargs c
  have hR : AllInRange (kx m c) (kg m c) := Pre.allInRange _ _ _ _ _ _ _ _ _ _ (hpre c)
  refine ⟨r0.trans ?_, r1.trans ?_, r2.trans ?_, r3.trans ?_, r4.trans ?_, rest⟩
  · rw [h0, h1, h2, h3, h8]; exact (normOf_eq hR _ _ _).symm
  · rw [h0, h1, h4, h5, h9]; exact (normOf_eq hR _ _ _).symm
  · rw [h0, h1, h6, h7]; exact (plainOf_eq hR _ _).symm
  · rw [h0, h1]; exact (codesOf_eq hR).symm
  · rw [h0, h1]; exact (scalesOf_eq hR).symm

/-- Everything the certificate claims. -/
theorem Cert.Proof.claim : Cert.Claim :=
  ⟨Cert.Kernel.Gen.facts, Cert.KernelIdeal.Gen.facts, Cert.ReferenceIdeal.Gen.facts, Cert.Pre_scales_in_range.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, Cert.Proof.preserves, Cert.Proof.algebraic⟩
